-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S512x512 : Shape := ⟨2, ![512, 512]⟩
abbrev S256x512 : Shape := ⟨2, ![256, 512]⟩
abbrev S128x512 : Shape := ⟨2, ![128, 512]⟩
abbrev S3x2 : Shape := ⟨2, ![3, 2]⟩
abbrev S_ : Shape := ⟨0, ![]⟩
abbrev S1024x128 : Shape := ⟨2, ![1024, 128]⟩
abbrev S1x1024x1x128 : Shape := ⟨4, ![1, 1024, 1, 128]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1x1 : Shape := ⟨2, ![1, 1]⟩
abbrev S1x128x512 : Shape := ⟨3, ![1, 128, 512]⟩
abbrev S1x256x512 : Shape := ⟨3, ![1, 256, 512]⟩
abbrev S1x512x512 : Shape := ⟨3, ![1, 512, 512]⟩

abbrev nBuf : Space → Nat
  | .hbm => 6
  | .vmem => 26
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x8x128, .bf16⟩
  | .hbm, ⟨3, _⟩ => ⟨S1x1024x8x128, .bf16⟩
  | .hbm, ⟨4, _⟩ => ⟨S1024x1024, .bf16⟩
  | .hbm, ⟨5, _⟩ => ⟨S1x1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1024x1024, .bf16⟩
  | .local _ .vmem, ⟨5, _⟩ => ⟨S1x1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S256x512, .bf16⟩
  | .local _ .vmem, ⟨16, _⟩ => ⟨S128x512, .bf16⟩
  | .local _ .vmem, ⟨17, _⟩ => ⟨S512x512, .bf16⟩
  | .local _ .vmem, ⟨18, _⟩ => ⟨S256x512, .bf16⟩
  | .local _ .vmem, ⟨19, _⟩ => ⟨S128x512, .bf16⟩
  | .local _ .vmem, ⟨20, _⟩ => ⟨S512x512, .bf16⟩
  | .local _ .vmem, ⟨21, _⟩ => ⟨S256x512, .bf16⟩
  | .local _ .vmem, ⟨22, _⟩ => ⟨S128x512, .bf16⟩
  | .local _ .vmem, ⟨23, _⟩ => ⟨S512x512, .bf16⟩
  | .local _ .vmem, ⟨24, _⟩ => ⟨S256x512, .bf16⟩
  | .local _ .vmem, ⟨25, _⟩ => ⟨S128x512, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c1_i32_91 : BitVec 32 := 1#32
  let c2_i32_88 : BitVec 32 := 2#32
  let v150 : BitVec 32 := Scalar.shrsi v2 c2_i32_88
  let c1_i32_89 : BitVec 32 := 1#32
  let v151 : BitVec 32 := Scalar.andi v150 c1_i32_89
  let v153 : BitVec 32 := Scalar.subi c1_i32_91 v151
  let c512_i32 : BitVec 32 := 512#32
  let v154 : BitVec 32 := Scalar.muli v153 c512_i32
  let v155 : BitVec 32 := Scalar.addi v148 v154
  let v156 : Index := Scalar.indexCast v155
  let c0_92 : Index := 0#32
  ![v156.toNat, 0]
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_90 : BitVec 32 := 4#32
  let v152 : BitVec 32 := Scalar.xori v2 c4_i32_90
  let c1_i32_99 : BitVec 32 := 1#32
  let v162 : BitVec 32 := Scalar.muli v152 c1_i32_99
  let v163 : BitVec 32 := Scalar.addi c0_i32_100 v162
  v163.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_107 : BitVec 32 := 1#32
  let c1_i32_104 : BitVec 32 := 1#32
  let v171 : BitVec 32 := Scalar.shrsi v2 c1_i32_104
  let c1_i32_105 : BitVec 32 := 1#32
  let v172 : BitVec 32 := Scalar.andi v171 c1_i32_105
  let v174 : BitVec 32 := Scalar.subi c1_i32_107 v172
  let c512_i32_108 : BitVec 32 := 512#32
  let v175 : BitVec 32 := Scalar.muli v174 c512_i32_108
  let v176 : BitVec 32 := Scalar.addi v149 v175
  let v177 : Index := Scalar.indexCast v176
  let c512 : Index := 512#32
  ![v177.toNat, 512]
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_106 : BitVec 32 := 3#32
  let v173 : BitVec 32 := Scalar.xori v2 c3_i32_106
  let c1_i32_115 : BitVec 32 := 1#32
  let v183 : BitVec 32 := Scalar.muli v173 c1_i32_115
  let v184 : BitVec 32 := Scalar.addi c0_i32_116 v183
  v184.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c2_i32_88 : BitVec 32 := 2#32
  let v150 : BitVec 32 := Scalar.shrsi v2 c2_i32_88
  let c1_i32_89 : BitVec 32 := 1#32
  let v151 : BitVec 32 := Scalar.andi v150 c1_i32_89
  let c512_i32_103 : BitVec 32 := 512#32
  let v169 : BitVec 32 := Scalar.muli v151 c512_i32_103
  let v170 : BitVec 32 := Scalar.addi v148 v169
  let v233 : Index := Scalar.indexCast v170
  let c0_165 : Index := 0#32
  ![v233.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_104 : BitVec 32 := 1#32
  let v171 : BitVec 32 := Scalar.shrsi v2 c1_i32_104
  let c1_i32_105 : BitVec 32 := 1#32
  let v172 : BitVec 32 := Scalar.andi v171 c1_i32_105
  let c512_i32_119 : BitVec 32 := 512#32
  let v190 : BitVec 32 := Scalar.muli v172 c512_i32_119
  let v191 : BitVec 32 := Scalar.addi v149 v190
  let v242 : Index := Scalar.indexCast v191
  let c512_169 : Index := 512#32
  ![v242.toNat, 512]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c2_i32_88 : BitVec 32 := 2#32
  let v150 : BitVec 32 := Scalar.shrsi v2 c2_i32_88
  let c1_i32_89 : BitVec 32 := 1#32
  let v151 : BitVec 32 := Scalar.andi v150 c1_i32_89
  let c512_i32_103 : BitVec 32 := 512#32
  let v169 : BitVec 32 := Scalar.muli v151 c512_i32_103
  let v170 : BitVec 32 := Scalar.addi v148 v169
  let c1_i32_176 : BitVec 32 := 1#32
  let c1_i32_173 : BitVec 32 := 1#32
  let v251 : BitVec 32 := Scalar.shrsi v2 c1_i32_173
  let c1_i32_174 : BitVec 32 := 1#32
  let v252 : BitVec 32 := Scalar.andi v251 c1_i32_174
  let v254 : BitVec 32 := Scalar.subi c1_i32_176 v252
  let c256_i32 : BitVec 32 := 256#32
  let v255 : BitVec 32 := Scalar.muli v254 c256_i32
  let v256 : BitVec 32 := Scalar.addi v170 v255
  let v257 : Index := Scalar.indexCast v256
  let c0_177 : Index := 0#32
  ![v257.toNat, 0]
def k0_dev6 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_175 : BitVec 32 := 3#32
  let v253 : BitVec 32 := Scalar.xori v2 c3_i32_175
  let c1_i32_184 : BitVec 32 := 1#32
  let v263 : BitVec 32 := Scalar.muli v253 c1_i32_184
  let v264 : BitVec 32 := Scalar.addi c0_i32_185 v263
  v264.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_104 : BitVec 32 := 1#32
  let v171 : BitVec 32 := Scalar.shrsi v2 c1_i32_104
  let c1_i32_105 : BitVec 32 := 1#32
  let v172 : BitVec 32 := Scalar.andi v171 c1_i32_105
  let c512_i32_119 : BitVec 32 := 512#32
  let v190 : BitVec 32 := Scalar.muli v172 c512_i32_119
  let v191 : BitVec 32 := Scalar.addi v149 v190
  let c1_i32_192 : BitVec 32 := 1#32
  let c0_i32_189 : BitVec 32 := 0#32
  let v272 : BitVec 32 := Scalar.shrsi v2 c0_i32_189
  let c1_i32_190 : BitVec 32 := 1#32
  let v273 : BitVec 32 := Scalar.andi v272 c1_i32_190
  let v275 : BitVec 32 := Scalar.subi c1_i32_192 v273
  let c256_i32_193 : BitVec 32 := 256#32
  let v276 : BitVec 32 := Scalar.muli v275 c256_i32_193
  let v277 : BitVec 32 := Scalar.addi v191 v276
  let v278 : Index := Scalar.indexCast v277
  let c512_194 : Index := 512#32
  ![v278.toNat, 512]
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_191 : BitVec 32 := 1#32
  let v274 : BitVec 32 := Scalar.xori v2 c1_i32_191
  let c1_i32_201 : BitVec 32 := 1#32
  let v284 : BitVec 32 := Scalar.muli v274 c1_i32_201
  let v285 : BitVec 32 := Scalar.addi c0_i32_202 v284
  v285.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c2_i32_88 : BitVec 32 := 2#32
  let v150 : BitVec 32 := Scalar.shrsi v2 c2_i32_88
  let c1_i32_89 : BitVec 32 := 1#32
  let v151 : BitVec 32 := Scalar.andi v150 c1_i32_89
  let c512_i32_103 : BitVec 32 := 512#32
  let v169 : BitVec 32 := Scalar.muli v151 c512_i32_103
  let v170 : BitVec 32 := Scalar.addi v148 v169
  let c1_i32_173 : BitVec 32 := 1#32
  let v251 : BitVec 32 := Scalar.shrsi v2 c1_i32_173
  let c1_i32_174 : BitVec 32 := 1#32
  let v252 : BitVec 32 := Scalar.andi v251 c1_i32_174
  let c256_i32_188 : BitVec 32 := 256#32
  let v270 : BitVec 32 := Scalar.muli v252 c256_i32_188
  let v271 : BitVec 32 := Scalar.addi v170 v270
  let v334 : Index := Scalar.indexCast v271
  let c0_250 : Index := 0#32
  ![v334.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_104 : BitVec 32 := 1#32
  let v171 : BitVec 32 := Scalar.shrsi v2 c1_i32_104
  let c1_i32_105 : BitVec 32 := 1#32
  let v172 : BitVec 32 := Scalar.andi v171 c1_i32_105
  let c512_i32_119 : BitVec 32 := 512#32
  let v190 : BitVec 32 := Scalar.muli v172 c512_i32_119
  let v191 : BitVec 32 := Scalar.addi v149 v190
  let c0_i32_189 : BitVec 32 := 0#32
  let v272 : BitVec 32 := Scalar.shrsi v2 c0_i32_189
  let c1_i32_190 : BitVec 32 := 1#32
  let v273 : BitVec 32 := Scalar.andi v272 c1_i32_190
  let c256_i32_205 : BitVec 32 := 256#32
  let v291 : BitVec 32 := Scalar.muli v273 c256_i32_205
  let v292 : BitVec 32 := Scalar.addi v191 v291
  let v343 : Index := Scalar.indexCast v292
  let c512_254 : Index := 512#32
  ![v343.toNat, 512]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c2_i32_88 : BitVec 32 := 2#32
  let v150 : BitVec 32 := Scalar.shrsi v2 c2_i32_88
  let c1_i32_89 : BitVec 32 := 1#32
  let v151 : BitVec 32 := Scalar.andi v150 c1_i32_89
  let c512_i32_103 : BitVec 32 := 512#32
  let v169 : BitVec 32 := Scalar.muli v151 c512_i32_103
  let v170 : BitVec 32 := Scalar.addi v148 v169
  let c1_i32_173 : BitVec 32 := 1#32
  let v251 : BitVec 32 := Scalar.shrsi v2 c1_i32_173
  let c1_i32_174 : BitVec 32 := 1#32
  let v252 : BitVec 32 := Scalar.andi v251 c1_i32_174
  let c256_i32_188 : BitVec 32 := 256#32
  let v270 : BitVec 32 := Scalar.muli v252 c256_i32_188
  let v271 : BitVec 32 := Scalar.addi v170 v270
  let c1_i32_261 : BitVec 32 := 1#32
  let c0_i32_258 : BitVec 32 := 0#32
  let v352 : BitVec 32 := Scalar.shrsi v2 c0_i32_258
  let c1_i32_259 : BitVec 32 := 1#32
  let v353 : BitVec 32 := Scalar.andi v352 c1_i32_259
  let v355 : BitVec 32 := Scalar.subi c1_i32_261 v353
  let c128_i32_262 : BitVec 32 := 128#32
  let v356 : BitVec 32 := Scalar.muli v355 c128_i32_262
  let v357 : BitVec 32 := Scalar.addi v271 v356
  let v358 : Index := Scalar.indexCast v357
  let c0_263 : Index := 0#32
  ![v358.toNat, 0]
def k0_dev8 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_260 : BitVec 32 := 1#32
  let v354 : BitVec 32 := Scalar.xori v2 c1_i32_260
  let c1_i32_270 : BitVec 32 := 1#32
  let v364 : BitVec 32 := Scalar.muli v354 c1_i32_270
  let v365 : BitVec 32 := Scalar.addi c0_i32_271 v364
  v365.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_104 : BitVec 32 := 1#32
  let v171 : BitVec 32 := Scalar.shrsi v2 c1_i32_104
  let c1_i32_105 : BitVec 32 := 1#32
  let v172 : BitVec 32 := Scalar.andi v171 c1_i32_105
  let c512_i32_119 : BitVec 32 := 512#32
  let v190 : BitVec 32 := Scalar.muli v172 c512_i32_119
  let v191 : BitVec 32 := Scalar.addi v149 v190
  let c0_i32_189 : BitVec 32 := 0#32
  let v272 : BitVec 32 := Scalar.shrsi v2 c0_i32_189
  let c1_i32_190 : BitVec 32 := 1#32
  let v273 : BitVec 32 := Scalar.andi v272 c1_i32_190
  let c256_i32_205 : BitVec 32 := 256#32
  let v291 : BitVec 32 := Scalar.muli v273 c256_i32_205
  let v292 : BitVec 32 := Scalar.addi v191 v291
  let c1_i32_278 : BitVec 32 := 1#32
  let c2_i32_275 : BitVec 32 := 2#32
  let v373 : BitVec 32 := Scalar.shrsi v2 c2_i32_275
  let c1_i32_276 : BitVec 32 := 1#32
  let v374 : BitVec 32 := Scalar.andi v373 c1_i32_276
  let v376 : BitVec 32 := Scalar.subi c1_i32_278 v374
  let c128_i32_279 : BitVec 32 := 128#32
  let v377 : BitVec 32 := Scalar.muli v376 c128_i32_279
  let v378 : BitVec 32 := Scalar.addi v292 v377
  let v379 : Index := Scalar.indexCast v378
  let c512_280 : Index := 512#32
  ![v379.toNat, 512]
def k0_dev9 (d0 : Dev nD) : Nat :=
  let c0_i32_288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_277 : BitVec 32 := 4#32
  let v375 : BitVec 32 := Scalar.xori v2 c4_i32_277
  let c1_i32_287 : BitVec 32 := 1#32
  let v385 : BitVec 32 := Scalar.muli v375 c1_i32_287
  let v386 : BitVec 32 := Scalar.addi c0_i32_288 v385
  v386.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_86 : BitVec 32 := 0#32
  let v148 : BitVec 32 := Scalar.muli v2 c0_i32_86
  let c2_i32_88 : BitVec 32 := 2#32
  let v150 : BitVec 32 := Scalar.shrsi v2 c2_i32_88
  let c1_i32_89 : BitVec 32 := 1#32
  let v151 : BitVec 32 := Scalar.andi v150 c1_i32_89
  let c512_i32_103 : BitVec 32 := 512#32
  let v169 : BitVec 32 := Scalar.muli v151 c512_i32_103
  let v170 : BitVec 32 := Scalar.addi v148 v169
  let c1_i32_173 : BitVec 32 := 1#32
  let v251 : BitVec 32 := Scalar.shrsi v2 c1_i32_173
  let c1_i32_174 : BitVec 32 := 1#32
  let v252 : BitVec 32 := Scalar.andi v251 c1_i32_174
  let c256_i32_188 : BitVec 32 := 256#32
  let v270 : BitVec 32 := Scalar.muli v252 c256_i32_188
  let v271 : BitVec 32 := Scalar.addi v170 v270
  let c0_i32_258 : BitVec 32 := 0#32
  let v352 : BitVec 32 := Scalar.shrsi v2 c0_i32_258
  let c1_i32_259 : BitVec 32 := 1#32
  let v353 : BitVec 32 := Scalar.andi v352 c1_i32_259
  let c128_i32_274 : BitVec 32 := 128#32
  let v371 : BitVec 32 := Scalar.muli v353 c128_i32_274
  let v372 : BitVec 32 := Scalar.addi v271 v371
  let v460 : Index := Scalar.indexCast v372
  let c0_350 : Index := 0#32
  ![v460.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v149 : BitVec 32 := Scalar.muli v2 c0_i32_87
  let c1_i32_104 : BitVec 32 := 1#32
  let v171 : BitVec 32 := Scalar.shrsi v2 c1_i32_104
  let c1_i32_105 : BitVec 32 := 1#32
  let v172 : BitVec 32 := Scalar.andi v171 c1_i32_105
  let c512_i32_119 : BitVec 32 := 512#32
  let v190 : BitVec 32 := Scalar.muli v172 c512_i32_119
  let v191 : BitVec 32 := Scalar.addi v149 v190
  let c0_i32_189 : BitVec 32 := 0#32
  let v272 : BitVec 32 := Scalar.shrsi v2 c0_i32_189
  let c1_i32_190 : BitVec 32 := 1#32
  let v273 : BitVec 32 := Scalar.andi v272 c1_i32_190
  let c256_i32_205 : BitVec 32 := 256#32
  let v291 : BitVec 32 := Scalar.muli v273 c256_i32_205
  let v292 : BitVec 32 := Scalar.addi v191 v291
  let c2_i32_275 : BitVec 32 := 2#32
  let v373 : BitVec 32 := Scalar.shrsi v2 c2_i32_275
  let c1_i32_276 : BitVec 32 := 1#32
  let v374 : BitVec 32 := Scalar.andi v373 c1_i32_276
  let c128_i32_291 : BitVec 32 := 128#32
  let v392 : BitVec 32 := Scalar.muli v374 c128_i32_291
  let v393 : BitVec 32 := Scalar.addi v292 v392
  let v469 : Index := Scalar.indexCast v393
  let c512_354 : Index := 512#32
  ![v469.toNat, 512]
def k0_dev10 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_367 : BitVec 32 := 4#32
  let v488 : BitVec 32 := Scalar.xori v2 c4_i32_367
  let c1_i32_377 : BitVec 32 := 1#32
  let v498 : BitVec 32 := Scalar.muli v488 c1_i32_377
  let v499 : BitVec 32 := Scalar.addi c0_i32_378 v498
  v499.toNat
def k0_dev11 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_384 : BitVec 32 := 3#32
  let v509 : BitVec 32 := Scalar.xori v2 c3_i32_384
  let c1_i32_394 : BitVec 32 := 1#32
  let v519 : BitVec 32 := Scalar.muli v509 c1_i32_394
  let v520 : BitVec 32 := Scalar.addi c0_i32_395 v519
  v520.toNat
def k0_dev12 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_439 : BitVec 32 := 3#32
  let v564 : BitVec 32 := Scalar.xori v2 c3_i32_439
  let c1_i32_449 : BitVec 32 := 1#32
  let v574 : BitVec 32 := Scalar.muli v564 c1_i32_449
  let v575 : BitVec 32 := Scalar.addi c0_i32_450 v574
  v575.toNat
def k0_dev13 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_456 : BitVec 32 := 1#32
  let v585 : BitVec 32 := Scalar.xori v2 c1_i32_456
  let c1_i32_466 : BitVec 32 := 1#32
  let v595 : BitVec 32 := Scalar.muli v585 c1_i32_466
  let v596 : BitVec 32 := Scalar.addi c0_i32_467 v595
  v596.toNat
def k0_dev14 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_511 : BitVec 32 := 1#32
  let v640 : BitVec 32 := Scalar.xori v2 c1_i32_511
  let c1_i32_521 : BitVec 32 := 1#32
  let v650 : BitVec 32 := Scalar.muli v640 c1_i32_521
  let v651 : BitVec 32 := Scalar.addi c0_i32_522 v650
  v651.toNat
def k0_dev15 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_528 : BitVec 32 := 4#32
  let v661 : BitVec 32 := Scalar.xori v2 c4_i32_528
  let c1_i32_538 : BitVec 32 := 1#32
  let v671 : BitVec 32 := Scalar.muli v661 c1_i32_538
  let v672 : BitVec 32 := Scalar.addi c0_i32_539 v671
  v672.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_581 : BitVec 32 := 128#32
  let v714 : BitVec 32 := Scalar.muli v2 c128_i32_581
  let v715 : Index := Scalar.indexCast v714
  let c0_582 : Index := 0#32
  ![v715.toNat, 0]
def k0_off14 (d0 : Dev nD) : Fin 3 → Nat :=
  let c0_584 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_581 : BitVec 32 := 128#32
  let v714 : BitVec 32 := Scalar.muli v2 c128_i32_581
  let v720 : Index := Scalar.indexCast v714
  let c0_585 : Index := 0#32
  ![0, v720.toNat, 0]
def k0_off15 (d0 : Dev nD) : Fin 2 → Nat :=
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v14 : BitVec 32 := Scalar.shrsi v2 c1_i32_11
  let c1_i32_12 : BitVec 32 := 1#32
  let v15 : BitVec 32 := Scalar.andi v14 c1_i32_12
  let v18 : BitVec 32 := Scalar.muli c4_i32_14 v15
  let c2_i32_15 : BitVec 32 := 2#32
  let c1_i32_10 : BitVec 32 := 1#32
  let v13 : BitVec 32 := Scalar.andi v2 c1_i32_10
  let v19 : BitVec 32 := Scalar.muli c2_i32_15 v13
  let v20 : BitVec 32 := Scalar.addi v18 v19
  let c2_i32 : BitVec 32 := 2#32
  let v16 : BitVec 32 := Scalar.shrsi v2 c2_i32
  let c1_i32_13 : BitVec 32 := 1#32
  let v17 : BitVec 32 := Scalar.andi v16 c1_i32_13
  let v21 : BitVec 32 := Scalar.addi v20 v17
  let c128_i32_587 : BitVec 32 := 128#32
  let v729 : BitVec 32 := Scalar.muli v21 c128_i32_587
  let v730 : Index := Scalar.indexCast v729
  let c512_588 : Index := 512#32
  ![v730.toNat, 512]
def k0_off16 (d0 : Dev nD) : Fin 3 → Nat :=
  let c0_590 : Index := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v14 : BitVec 32 := Scalar.shrsi v2 c1_i32_11
  let c1_i32_12 : BitVec 32 := 1#32
  let v15 : BitVec 32 := Scalar.andi v14 c1_i32_12
  let v18 : BitVec 32 := Scalar.muli c4_i32_14 v15
  let c2_i32_15 : BitVec 32 := 2#32
  let c1_i32_10 : BitVec 32 := 1#32
  let v13 : BitVec 32 := Scalar.andi v2 c1_i32_10
  let v19 : BitVec 32 := Scalar.muli c2_i32_15 v13
  let v20 : BitVec 32 := Scalar.addi v18 v19
  let c2_i32 : BitVec 32 := 2#32
  let v16 : BitVec 32 := Scalar.shrsi v2 c2_i32
  let c1_i32_13 : BitVec 32 := 1#32
  let v17 : BitVec 32 := Scalar.andi v16 c1_i32_13
  let v21 : BitVec 32 := Scalar.addi v20 v17
  let c128_i32_587 : BitVec 32 := 128#32
  let v729 : BitVec 32 := Scalar.muli v21 c128_i32_587
  let v735 : Index := Scalar.indexCast v729
  let c512_591 : Index := 512#32
  ![0, v735.toNat, 512]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v745 : BitVec 32 := Scalar.andi v2 c_m1_i32
  let c128_i32_594 : BitVec 32 := 128#32
  let v746 : BitVec 32 := Scalar.muli v745 c128_i32_594
  let c0_i32_603 : BitVec 32 := 0#32
  ![v746.toNat, 0]
def k0_dev16 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_593 : BitVec 32 := 1#32
  let v744 : BitVec 32 := Scalar.xori v2 c1_i32_593
  let c1_i32_601 : BitVec 32 := 1#32
  let v749 : BitVec 32 := Scalar.muli v744 c1_i32_601
  let v750 : BitVec 32 := Scalar.addi c0_i32_602 v749
  v750.toNat
def k0_off18 (d0 : Dev nD) : Fin 2 → Nat :=
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v14 : BitVec 32 := Scalar.shrsi v2 c1_i32_11
  let c1_i32_12 : BitVec 32 := 1#32
  let v15 : BitVec 32 := Scalar.andi v14 c1_i32_12
  let v18 : BitVec 32 := Scalar.muli c4_i32_14 v15
  let c2_i32_15 : BitVec 32 := 2#32
  let c1_i32_10 : BitVec 32 := 1#32
  let v13 : BitVec 32 := Scalar.andi v2 c1_i32_10
  let v19 : BitVec 32 := Scalar.muli c2_i32_15 v13
  let v20 : BitVec 32 := Scalar.addi v18 v19
  let c2_i32 : BitVec 32 := 2#32
  let v16 : BitVec 32 := Scalar.shrsi v2 c2_i32
  let c1_i32_13 : BitVec 32 := 1#32
  let v17 : BitVec 32 := Scalar.andi v16 c1_i32_13
  let v21 : BitVec 32 := Scalar.addi v20 v17
  let c_m1_i32_613 : BitVec 32 := 4294967295#32
  let v767 : BitVec 32 := Scalar.andi v21 c_m1_i32_613
  let c128_i32_614 : BitVec 32 := 128#32
  let v768 : BitVec 32 := Scalar.muli v767 c128_i32_614
  let c512_i32_623 : BitVec 32 := 512#32
  ![v768.toNat, 512]
def k0_dev17 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v757 : BitVec 32 := Scalar.xori v2 c4_i32_605
  let c1_i32_621 : BitVec 32 := 1#32
  let v771 : BitVec 32 := Scalar.muli v757 c1_i32_621
  let v772 : BitVec 32 := Scalar.addi c0_i32_622 v771
  v772.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_593 : BitVec 32 := 1#32
  let v744 : BitVec 32 := Scalar.xori v2 c1_i32_593
  let c_m1_i32_595 : BitVec 32 := 4294967295#32
  let v747 : BitVec 32 := Scalar.andi v744 c_m1_i32_595
  let c128_i32_596 : BitVec 32 := 128#32
  let v748 : BitVec 32 := Scalar.muli v747 c128_i32_596
  let v799 : Index := Scalar.indexCast v748
  let c0_655 : Index := 0#32
  ![v799.toNat, 0]
def k0_off20 (d0 : Dev nD) : Fin 3 → Nat :=
  let c0_656 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_593 : BitVec 32 := 1#32
  let v744 : BitVec 32 := Scalar.xori v2 c1_i32_593
  let c_m1_i32_595 : BitVec 32 := 4294967295#32
  let v747 : BitVec 32 := Scalar.andi v744 c_m1_i32_595
  let c128_i32_596 : BitVec 32 := 128#32
  let v748 : BitVec 32 := Scalar.muli v747 c128_i32_596
  let v802 : Index := Scalar.indexCast v748
  let c0_657 : Index := 0#32
  ![0, v802.toNat, 0]
def k0_off21 (d0 : Dev nD) : Fin 2 → Nat :=
  let c4_i32_611 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v757 : BitVec 32 := Scalar.xori v2 c4_i32_605
  let c1_i32_607 : BitVec 32 := 1#32
  let v759 : BitVec 32 := Scalar.shrsi v757 c1_i32_607
  let c1_i32_608 : BitVec 32 := 1#32
  let v760 : BitVec 32 := Scalar.andi v759 c1_i32_608
  let v763 : BitVec 32 := Scalar.muli c4_i32_611 v760
  let c2_i32_612 : BitVec 32 := 2#32
  let c1_i32_606 : BitVec 32 := 1#32
  let v758 : BitVec 32 := Scalar.andi v757 c1_i32_606
  let v764 : BitVec 32 := Scalar.muli c2_i32_612 v758
  let v765 : BitVec 32 := Scalar.addi v763 v764
  let c2_i32_609 : BitVec 32 := 2#32
  let v761 : BitVec 32 := Scalar.shrsi v757 c2_i32_609
  let c1_i32_610 : BitVec 32 := 1#32
  let v762 : BitVec 32 := Scalar.andi v761 c1_i32_610
  let v766 : BitVec 32 := Scalar.addi v765 v762
  let c_m1_i32_615 : BitVec 32 := 4294967295#32
  let v769 : BitVec 32 := Scalar.andi v766 c_m1_i32_615
  let c128_i32_616 : BitVec 32 := 128#32
  let v770 : BitVec 32 := Scalar.muli v769 c128_i32_616
  let v806 : Index := Scalar.indexCast v770
  let c512_658 : Index := 512#32
  ![v806.toNat, 512]
def k0_off22 (d0 : Dev nD) : Fin 3 → Nat :=
  let c0_659 : Index := 0#32
  let c4_i32_611 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v757 : BitVec 32 := Scalar.xori v2 c4_i32_605
  let c1_i32_607 : BitVec 32 := 1#32
  let v759 : BitVec 32 := Scalar.shrsi v757 c1_i32_607
  let c1_i32_608 : BitVec 32 := 1#32
  let v760 : BitVec 32 := Scalar.andi v759 c1_i32_608
  let v763 : BitVec 32 := Scalar.muli c4_i32_611 v760
  let c2_i32_612 : BitVec 32 := 2#32
  let c1_i32_606 : BitVec 32 := 1#32
  let v758 : BitVec 32 := Scalar.andi v757 c1_i32_606
  let v764 : BitVec 32 := Scalar.muli c2_i32_612 v758
  let v765 : BitVec 32 := Scalar.addi v763 v764
  let c2_i32_609 : BitVec 32 := 2#32
  let v761 : BitVec 32 := Scalar.shrsi v757 c2_i32_609
  let c1_i32_610 : BitVec 32 := 1#32
  let v762 : BitVec 32 := Scalar.andi v761 c1_i32_610
  let v766 : BitVec 32 := Scalar.addi v765 v762
  let c_m1_i32_615 : BitVec 32 := 4294967295#32
  let v769 : BitVec 32 := Scalar.andi v766 c_m1_i32_615
  let c128_i32_616 : BitVec 32 := 128#32
  let v770 : BitVec 32 := Scalar.muli v769 c128_i32_616
  let v809 : Index := Scalar.indexCast v770
  let c512_660 : Index := 512#32
  ![0, v809.toNat, 512]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32 : BitVec 32 := 4294967294#32
  let v814 : BitVec 32 := Scalar.andi v2 c_m2_i32
  let c128_i32_662 : BitVec 32 := 128#32
  let v815 : BitVec 32 := Scalar.muli v814 c128_i32_662
  let c0_i32_671 : BitVec 32 := 0#32
  ![v815.toNat, 0]
def k0_dev18 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_661 : BitVec 32 := 3#32
  let v813 : BitVec 32 := Scalar.xori v2 c3_i32_661
  let c1_i32_669 : BitVec 32 := 1#32
  let v818 : BitVec 32 := Scalar.muli v813 c1_i32_669
  let v819 : BitVec 32 := Scalar.addi c0_i32_670 v818
  v819.toNat
def k0_off24 (d0 : Dev nD) : Fin 2 → Nat :=
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v14 : BitVec 32 := Scalar.shrsi v2 c1_i32_11
  let c1_i32_12 : BitVec 32 := 1#32
  let v15 : BitVec 32 := Scalar.andi v14 c1_i32_12
  let v18 : BitVec 32 := Scalar.muli c4_i32_14 v15
  let c2_i32_15 : BitVec 32 := 2#32
  let c1_i32_10 : BitVec 32 := 1#32
  let v13 : BitVec 32 := Scalar.andi v2 c1_i32_10
  let v19 : BitVec 32 := Scalar.muli c2_i32_15 v13
  let v20 : BitVec 32 := Scalar.addi v18 v19
  let c2_i32 : BitVec 32 := 2#32
  let v16 : BitVec 32 := Scalar.shrsi v2 c2_i32
  let c1_i32_13 : BitVec 32 := 1#32
  let v17 : BitVec 32 := Scalar.andi v16 c1_i32_13
  let v21 : BitVec 32 := Scalar.addi v20 v17
  let c_m2_i32_681 : BitVec 32 := 4294967294#32
  let v836 : BitVec 32 := Scalar.andi v21 c_m2_i32_681
  let c128_i32_682 : BitVec 32 := 128#32
  let v837 : BitVec 32 := Scalar.muli v836 c128_i32_682
  let c512_i32_691 : BitVec 32 := 512#32
  ![v837.toNat, 512]
def k0_dev19 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_673 : BitVec 32 := 1#32
  let v826 : BitVec 32 := Scalar.xori v2 c1_i32_673
  let c1_i32_689 : BitVec 32 := 1#32
  let v840 : BitVec 32 := Scalar.muli v826 c1_i32_689
  let v841 : BitVec 32 := Scalar.addi c0_i32_690 v840
  v841.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_661 : BitVec 32 := 3#32
  let v813 : BitVec 32 := Scalar.xori v2 c3_i32_661
  let c_m2_i32_663 : BitVec 32 := 4294967294#32
  let v816 : BitVec 32 := Scalar.andi v813 c_m2_i32_663
  let c128_i32_664 : BitVec 32 := 128#32
  let v817 : BitVec 32 := Scalar.muli v816 c128_i32_664
  let v868 : Index := Scalar.indexCast v817
  let c0_723 : Index := 0#32
  ![v868.toNat, 0]
def k0_off26 (d0 : Dev nD) : Fin 3 → Nat :=
  let c0_724 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_661 : BitVec 32 := 3#32
  let v813 : BitVec 32 := Scalar.xori v2 c3_i32_661
  let c_m2_i32_663 : BitVec 32 := 4294967294#32
  let v816 : BitVec 32 := Scalar.andi v813 c_m2_i32_663
  let c128_i32_664 : BitVec 32 := 128#32
  let v817 : BitVec 32 := Scalar.muli v816 c128_i32_664
  let v871 : Index := Scalar.indexCast v817
  let c0_725 : Index := 0#32
  ![0, v871.toNat, 0]
def k0_off27 (d0 : Dev nD) : Fin 2 → Nat :=
  let c4_i32_679 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_673 : BitVec 32 := 1#32
  let v826 : BitVec 32 := Scalar.xori v2 c1_i32_673
  let c1_i32_675 : BitVec 32 := 1#32
  let v828 : BitVec 32 := Scalar.shrsi v826 c1_i32_675
  let c1_i32_676 : BitVec 32 := 1#32
  let v829 : BitVec 32 := Scalar.andi v828 c1_i32_676
  let v832 : BitVec 32 := Scalar.muli c4_i32_679 v829
  let c2_i32_680 : BitVec 32 := 2#32
  let c1_i32_674 : BitVec 32 := 1#32
  let v827 : BitVec 32 := Scalar.andi v826 c1_i32_674
  let v833 : BitVec 32 := Scalar.muli c2_i32_680 v827
  let v834 : BitVec 32 := Scalar.addi v832 v833
  let c2_i32_677 : BitVec 32 := 2#32
  let v830 : BitVec 32 := Scalar.shrsi v826 c2_i32_677
  let c1_i32_678 : BitVec 32 := 1#32
  let v831 : BitVec 32 := Scalar.andi v830 c1_i32_678
  let v835 : BitVec 32 := Scalar.addi v834 v831
  let c_m2_i32_683 : BitVec 32 := 4294967294#32
  let v838 : BitVec 32 := Scalar.andi v835 c_m2_i32_683
  let c128_i32_684 : BitVec 32 := 128#32
  let v839 : BitVec 32 := Scalar.muli v838 c128_i32_684
  let v875 : Index := Scalar.indexCast v839
  let c512_726 : Index := 512#32
  ![v875.toNat, 512]
def k0_off28 (d0 : Dev nD) : Fin 3 → Nat :=
  let c0_727 : Index := 0#32
  let c4_i32_679 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_673 : BitVec 32 := 1#32
  let v826 : BitVec 32 := Scalar.xori v2 c1_i32_673
  let c1_i32_675 : BitVec 32 := 1#32
  let v828 : BitVec 32 := Scalar.shrsi v826 c1_i32_675
  let c1_i32_676 : BitVec 32 := 1#32
  let v829 : BitVec 32 := Scalar.andi v828 c1_i32_676
  let v832 : BitVec 32 := Scalar.muli c4_i32_679 v829
  let c2_i32_680 : BitVec 32 := 2#32
  let c1_i32_674 : BitVec 32 := 1#32
  let v827 : BitVec 32 := Scalar.andi v826 c1_i32_674
  let v833 : BitVec 32 := Scalar.muli c2_i32_680 v827
  let v834 : BitVec 32 := Scalar.addi v832 v833
  let c2_i32_677 : BitVec 32 := 2#32
  let v830 : BitVec 32 := Scalar.shrsi v826 c2_i32_677
  let c1_i32_678 : BitVec 32 := 1#32
  let v831 : BitVec 32 := Scalar.andi v830 c1_i32_678
  let v835 : BitVec 32 := Scalar.addi v834 v831
  let c_m2_i32_683 : BitVec 32 := 4294967294#32
  let v838 : BitVec 32 := Scalar.andi v835 c_m2_i32_683
  let c128_i32_684 : BitVec 32 := 128#32
  let v839 : BitVec 32 := Scalar.muli v838 c128_i32_684
  let v878 : Index := Scalar.indexCast v839
  let c512_728 : Index := 512#32
  ![0, v878.toNat, 512]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32 : BitVec 32 := 4294967292#32
  let v883 : BitVec 32 := Scalar.andi v2 c_m4_i32
  let c128_i32_730 : BitVec 32 := 128#32
  let v884 : BitVec 32 := Scalar.muli v883 c128_i32_730
  let c0_i32_739 : BitVec 32 := 0#32
  ![v884.toNat, 0]
def k0_dev20 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_729 : BitVec 32 := 4#32
  let v882 : BitVec 32 := Scalar.xori v2 c4_i32_729
  let c1_i32_737 : BitVec 32 := 1#32
  let v887 : BitVec 32 := Scalar.muli v882 c1_i32_737
  let v888 : BitVec 32 := Scalar.addi c0_i32_738 v887
  v888.toNat
def k0_off30 (d0 : Dev nD) : Fin 2 → Nat :=
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v14 : BitVec 32 := Scalar.shrsi v2 c1_i32_11
  let c1_i32_12 : BitVec 32 := 1#32
  let v15 : BitVec 32 := Scalar.andi v14 c1_i32_12
  let v18 : BitVec 32 := Scalar.muli c4_i32_14 v15
  let c2_i32_15 : BitVec 32 := 2#32
  let c1_i32_10 : BitVec 32 := 1#32
  let v13 : BitVec 32 := Scalar.andi v2 c1_i32_10
  let v19 : BitVec 32 := Scalar.muli c2_i32_15 v13
  let v20 : BitVec 32 := Scalar.addi v18 v19
  let c2_i32 : BitVec 32 := 2#32
  let v16 : BitVec 32 := Scalar.shrsi v2 c2_i32
  let c1_i32_13 : BitVec 32 := 1#32
  let v17 : BitVec 32 := Scalar.andi v16 c1_i32_13
  let v21 : BitVec 32 := Scalar.addi v20 v17
  let c_m4_i32_749 : BitVec 32 := 4294967292#32
  let v905 : BitVec 32 := Scalar.andi v21 c_m4_i32_749
  let c128_i32_750 : BitVec 32 := 128#32
  let v906 : BitVec 32 := Scalar.muli v905 c128_i32_750
  let c512_i32_759 : BitVec 32 := 512#32
  ![v906.toNat, 512]
def k0_dev21 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_741 : BitVec 32 := 3#32
  let v895 : BitVec 32 := Scalar.xori v2 c3_i32_741
  let c1_i32_757 : BitVec 32 := 1#32
  let v909 : BitVec 32 := Scalar.muli v895 c1_i32_757
  let v910 : BitVec 32 := Scalar.addi c0_i32_758 v909
  v910.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_729 : BitVec 32 := 4#32
  let v882 : BitVec 32 := Scalar.xori v2 c4_i32_729
  let c_m4_i32_731 : BitVec 32 := 4294967292#32
  let v885 : BitVec 32 := Scalar.andi v882 c_m4_i32_731
  let c128_i32_732 : BitVec 32 := 128#32
  let v886 : BitVec 32 := Scalar.muli v885 c128_i32_732
  let v937 : Index := Scalar.indexCast v886
  let c0_791 : Index := 0#32
  ![v937.toNat, 0]
def k0_off32 (d0 : Dev nD) : Fin 3 → Nat :=
  let c0_792 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_729 : BitVec 32 := 4#32
  let v882 : BitVec 32 := Scalar.xori v2 c4_i32_729
  let c_m4_i32_731 : BitVec 32 := 4294967292#32
  let v885 : BitVec 32 := Scalar.andi v882 c_m4_i32_731
  let c128_i32_732 : BitVec 32 := 128#32
  let v886 : BitVec 32 := Scalar.muli v885 c128_i32_732
  let v940 : Index := Scalar.indexCast v886
  let c0_793 : Index := 0#32
  ![0, v940.toNat, 0]
def k0_off33 (d0 : Dev nD) : Fin 2 → Nat :=
  let c4_i32_747 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_741 : BitVec 32 := 3#32
  let v895 : BitVec 32 := Scalar.xori v2 c3_i32_741
  let c1_i32_743 : BitVec 32 := 1#32
  let v897 : BitVec 32 := Scalar.shrsi v895 c1_i32_743
  let c1_i32_744 : BitVec 32 := 1#32
  let v898 : BitVec 32 := Scalar.andi v897 c1_i32_744
  let v901 : BitVec 32 := Scalar.muli c4_i32_747 v898
  let c2_i32_748 : BitVec 32 := 2#32
  let c1_i32_742 : BitVec 32 := 1#32
  let v896 : BitVec 32 := Scalar.andi v895 c1_i32_742
  let v902 : BitVec 32 := Scalar.muli c2_i32_748 v896
  let v903 : BitVec 32 := Scalar.addi v901 v902
  let c2_i32_745 : BitVec 32 := 2#32
  let v899 : BitVec 32 := Scalar.shrsi v895 c2_i32_745
  let c1_i32_746 : BitVec 32 := 1#32
  let v900 : BitVec 32 := Scalar.andi v899 c1_i32_746
  let v904 : BitVec 32 := Scalar.addi v903 v900
  let c_m4_i32_751 : BitVec 32 := 4294967292#32
  let v907 : BitVec 32 := Scalar.andi v904 c_m4_i32_751
  let c128_i32_752 : BitVec 32 := 128#32
  let v908 : BitVec 32 := Scalar.muli v907 c128_i32_752
  let v944 : Index := Scalar.indexCast v908
  let c512_794 : Index := 512#32
  ![v944.toNat, 512]
def k0_off34 (d0 : Dev nD) : Fin 3 → Nat :=
  let c0_795 : Index := 0#32
  let c4_i32_747 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_741 : BitVec 32 := 3#32
  let v895 : BitVec 32 := Scalar.xori v2 c3_i32_741
  let c1_i32_743 : BitVec 32 := 1#32
  let v897 : BitVec 32 := Scalar.shrsi v895 c1_i32_743
  let c1_i32_744 : BitVec 32 := 1#32
  let v898 : BitVec 32 := Scalar.andi v897 c1_i32_744
  let v901 : BitVec 32 := Scalar.muli c4_i32_747 v898
  let c2_i32_748 : BitVec 32 := 2#32
  let c1_i32_742 : BitVec 32 := 1#32
  let v896 : BitVec 32 := Scalar.andi v895 c1_i32_742
  let v902 : BitVec 32 := Scalar.muli c2_i32_748 v896
  let v903 : BitVec 32 := Scalar.addi v901 v902
  let c2_i32_745 : BitVec 32 := 2#32
  let v899 : BitVec 32 := Scalar.shrsi v895 c2_i32_745
  let c1_i32_746 : BitVec 32 := 1#32
  let v900 : BitVec 32 := Scalar.andi v899 c1_i32_746
  let v904 : BitVec 32 := Scalar.addi v903 v900
  let c_m4_i32_751 : BitVec 32 := 4294967292#32
  let v907 : BitVec 32 := Scalar.andi v904 c_m4_i32_751
  let c128_i32_752 : BitVec 32 := 128#32
  let v908 : BitVec 32 := Scalar.muli v907 c128_i32_752
  let v947 : Index := Scalar.indexCast v908
  let c512_796 : Index := 512#32
  ![0, v947.toNat, 512]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x8192, .bf16⟩
  | .hbm, ⟨2, _⟩ => ⟨S1x1024x64x128, .bf16⟩
  | .hbm, ⟨3, _⟩ => ⟨S1x1024x64x128, .bf16⟩
  | .hbm, ⟨4, _⟩ => ⟨S8192x1024, .bf16⟩
  | .hbm, ⟨5, _⟩ => ⟨S1x1024x1024, .f32⟩
  | .hbm, ⟨6, _⟩ => ⟨S1024x8192, .f32⟩
  | .hbm, ⟨7, _⟩ => ⟨S1x1024x64x128, .f32⟩
  | .hbm, ⟨8, _⟩ => ⟨S1x1024x64x128, .f32⟩
  | .hbm, ⟨9, _⟩ => ⟨S8192x1024, .f32⟩
  | .hbm, ⟨10, _⟩ => ⟨S1x1024x8192, .f32⟩
  | .hbm, ⟨11, _⟩ => ⟨S1x1024x64x128, .f32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S1x1024, .i32⟩
  | .hbm, ⟨16, _⟩ => ⟨S1024x1024, .i32⟩
  | .hbm, ⟨17, _⟩ => ⟨S1024x1024, .i32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i1⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S1024x1024, .i1⟩
  | .hbm, ⟨30, _⟩ => ⟨S1024x1024, .i1⟩
  | .hbm, ⟨31, _⟩ => ⟨S1024x1024, .i1⟩
  | .hbm, ⟨32, _⟩ => ⟨S1024x1024, .i1⟩
  | .hbm, ⟨33, _⟩ => ⟨S1x64x1024x1024, .f32⟩
  | .hbm, ⟨34, _⟩ => ⟨S_, .f32⟩
  | .hbm, ⟨35, _⟩ => ⟨S1x64x1024x1024, .f32⟩
  | .hbm, ⟨36, _⟩ => ⟨S1x64x1024x1024, .f32⟩
  | .hbm, ⟨37, _⟩ => ⟨S1x1x1024x1024, .i1⟩
  | .hbm, ⟨38, _⟩ => ⟨S_, .f32⟩
  | .hbm, ⟨39, _⟩ => ⟨S_, .f32⟩
  | .hbm, ⟨40, _⟩ => ⟨S1x64x1024x1024, .i1⟩
  | .hbm, ⟨41, _⟩ => ⟨S1x64x1024x1024, .f32⟩
  | .hbm, ⟨42, _⟩ => ⟨S1x64x1024x1024, .f32⟩
  | .hbm, ⟨43, _⟩ => ⟨S_, .f32⟩
  | .hbm, ⟨44, _⟩ => ⟨S1x64x1024, .f32⟩
  | .hbm, ⟨45, _⟩ => ⟨S1x64x1024x1, .f32⟩
  | .hbm, ⟨46, _⟩ => ⟨S1x64x1024x1024, .f32⟩
  | .hbm, ⟨47, _⟩ => ⟨S1x64x1024x1024, .f32⟩
  | .hbm, ⟨48, _⟩ => ⟨S1x64x1024x1024, .f32⟩
  | .hbm, ⟨49, _⟩ => ⟨S_, .i1⟩
  | .hbm, ⟨50, _⟩ => ⟨S1024, .i1⟩
  | .hbm, ⟨51, _⟩ => ⟨S1x1x1024x1, .i1⟩
  | .hbm, ⟨52, _⟩ => ⟨S_, .f32⟩
  | .hbm, ⟨53, _⟩ => ⟨S1x64x1024, .f32⟩
  | .hbm, ⟨54, _⟩ => ⟨S1x64x1024x1, .f32⟩
  | .hbm, ⟨55, _⟩ => ⟨S_, .f32⟩
  | .hbm, ⟨56, _⟩ => ⟨S_, .f32⟩
  | .hbm, ⟨57, _⟩ => ⟨S1x64x1024x1, .i1⟩
  | .hbm, ⟨58, _⟩ => ⟨S1x64x1024x1, .f32⟩
  | .hbm, ⟨59, _⟩ => ⟨S1x64x1024x1, .f32⟩
  | .hbm, ⟨60, _⟩ => ⟨S1x64x1024x1024, .f32⟩
  | .hbm, ⟨61, _⟩ => ⟨S1x64x1024x1024, .f32⟩
  | .hbm, ⟨62, _⟩ => ⟨S1x1x1024x1, .i1⟩
  | .hbm, ⟨63, _⟩ => ⟨S_, .f32⟩
  | .hbm, ⟨64, _⟩ => ⟨S_, .f32⟩
  | .hbm, ⟨65, _⟩ => ⟨S1x64x1024x1024, .i1⟩
  | .hbm, ⟨66, _⟩ => ⟨S1x64x1024x1024, .f32⟩
  | .hbm, ⟨67, _⟩ => ⟨S1x64x1024x1024, .f32⟩
  | .hbm, ⟨68, _⟩ => ⟨S1x64x128x1024, .f32⟩
  | .hbm, ⟨69, _⟩ => ⟨S1x1024x64x128, .f32⟩
  | .hbm, ⟨70, _⟩ => ⟨S1x1024x8192, .f32⟩
  | .hbm, ⟨71, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Mesh.lean ====
/-
# The mesh: partners, transfers, semaphores, levels

Eight devices stand on a line; a transfer always goes between a device and the device whose number
differs from its own by the bit mask 1, 3 or 4. Eighteen transfers leave every device: three phases
(the reduce-scatter of the first four heads' partial product, that of the last four, the
all-gather), three rounds each, each round for the left and the right half of the columns.
-/
module

public import proofs.«01_k».proof.Proof.Gen.KernelIdeal
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe

/-- The mask of a direction. -/
abbrev mask (j : Fin 3) : ℕ := ![1, 3, 4] j

set_option backward.proofsInPublic true in
/-- The partner of device `c` in direction `j`. -/
def part (j : Fin 3) (c : Dev nD) : Dev nD := ⟨(c.val ^^^ mask j) % 8, Nat.mod_lt _ (by decide)⟩

theorem part_part (j : Fin 3) (c : Dev nD) : part j (part j c) = c := by revert j c; decide

/-- The partnership of a direction, as a bijection of the devices. -/
def swap (j : Fin 3) : Dev nD ≃ Dev nD := ⟨part j, part j, part_part j, part_part j⟩

/-- A transfer: its phase, its round, its half of the columns. -/
abbrev Xfer : Type := Fin 3 × Fin 3 × Fin 2

/-- The direction a transfer takes. -/
def dir (t : Xfer) : Fin 3 :=
  if t.1 = 2 then ![![0, 2], ![1, 0], ![2, 1]] t.2.1 t.2.2 else ![![2, 1], ![1, 0], ![0, 2]] t.2.1 t.2.2

/-- The place of a transfer in the program. -/
def rank (t : Xfer) : ℕ := 6 * t.1.val + 2 * t.2.1.val + t.2.2.val

theorem rank_injective : Function.Injective rank := by decide

/-- The semaphores a transfer completes on: at its source, -/
def sendS (t : Xfer) : DmaSem sig := ⟨6 + 12 * t.1.val + 2 * t.2.1.val + t.2.2.val, by revert t; decide⟩
/-- and at its target. -/
def recvS (t : Xfer) : DmaSem sig := ⟨12 + 12 * t.1.val + 2 * t.2.1.val + t.2.2.val, by revert t; decide⟩

/-! ## The printed device numbers -/

theorem dev1_eq (c : Dev nD) : (⟨k0_dev1 c, k0_dev1_lt c⟩ : Dev nD) = part 0 c := by revert c; decide
theorem dev2_eq (c : Dev nD) : (⟨k0_dev2 c, k0_dev2_lt c⟩ : Dev nD) = part 1 c := by revert c; decide
theorem dev3_eq (c : Dev nD) : (⟨k0_dev3 c, k0_dev3_lt c⟩ : Dev nD) = part 2 c := by revert c; decide
theorem dev4_eq (c : Dev nD) : (⟨k0_dev4 c, k0_dev4_lt c⟩ : Dev nD) = part (dir (0, 0, 0)) c := by revert c; decide
theorem dev5_eq (c : Dev nD) : (⟨k0_dev5 c, k0_dev5_lt c⟩ : Dev nD) = part (dir (0, 0, 1)) c := by revert c; decide
theorem dev6_eq (c : Dev nD) : (⟨k0_dev6 c, k0_dev6_lt c⟩ : Dev nD) = part (dir (0, 1, 0)) c := by revert c; decide
theorem dev7_eq (c : Dev nD) : (⟨k0_dev7 c, k0_dev7_lt c⟩ : Dev nD) = part (dir (0, 1, 1)) c := by revert c; decide
theorem dev8_eq (c : Dev nD) : (⟨k0_dev8 c, k0_dev8_lt c⟩ : Dev nD) = part (dir (0, 2, 0)) c := by revert c; decide
theorem dev9_eq (c : Dev nD) : (⟨k0_dev9 c, k0_dev9_lt c⟩ : Dev nD) = part (dir (0, 2, 1)) c := by revert c; decide
theorem dev10_eq (c : Dev nD) : (⟨k0_dev10 c, k0_dev10_lt c⟩ : Dev nD) = part (dir (1, 0, 0)) c := by revert c; decide
theorem dev11_eq (c : Dev nD) : (⟨k0_dev11 c, k0_dev11_lt c⟩ : Dev nD) = part (dir (1, 0, 1)) c := by revert c; decide
theorem dev12_eq (c : Dev nD) : (⟨k0_dev12 c, k0_dev12_lt c⟩ : Dev nD) = part (dir (1, 1, 0)) c := by revert c; decide
theorem dev13_eq (c : Dev nD) : (⟨k0_dev13 c, k0_dev13_lt c⟩ : Dev nD) = part (dir (1, 1, 1)) c := by revert c; decide
theorem dev14_eq (c : Dev nD) : (⟨k0_dev14 c, k0_dev14_lt c⟩ : Dev nD) = part (dir (1, 2, 0)) c := by revert c; decide
theorem dev15_eq (c : Dev nD) : (⟨k0_dev15 c, k0_dev15_lt c⟩ : Dev nD) = part (dir (1, 2, 1)) c := by revert c; decide
theorem dev16_eq (c : Dev nD) : (⟨k0_dev16 c, k0_dev16_lt c⟩ : Dev nD) = part (dir (2, 0, 0)) c := by revert c; decide
theorem dev17_eq (c : Dev nD) : (⟨k0_dev17 c, k0_dev17_lt c⟩ : Dev nD) = part (dir (2, 0, 1)) c := by revert c; decide
theorem dev18_eq (c : Dev nD) : (⟨k0_dev18 c, k0_dev18_lt c⟩ : Dev nD) = part (dir (2, 1, 0)) c := by revert c; decide
theorem dev19_eq (c : Dev nD) : (⟨k0_dev19 c, k0_dev19_lt c⟩ : Dev nD) = part (dir (2, 1, 1)) c := by revert c; decide
theorem dev20_eq (c : Dev nD) : (⟨k0_dev20 c, k0_dev20_lt c⟩ : Dev nD) = part (dir (2, 2, 0)) c := by revert c; decide
theorem dev21_eq (c : Dev nD) : (⟨k0_dev21 c, k0_dev21_lt c⟩ : Dev nD) = part (dir (2, 2, 1)) c := by revert c; decide

/-! ## The rows a device keeps

In round `r` of a reduce-scatter a device keeps one half of its rows and sends the other; the left
columns take the bits of the device number in the order 2, 1, 0, the right columns in the order
1, 0, 2. The all-gather takes the same rows backwards. -/

/-- The bit that chooses the kept rows of half `p` in round `r`. -/
def bit (p : Fin 2) (r : Fin 3) (c : Dev nD) : ℕ := c.val / 2 ^ (![![2, 1, 0], ![1, 0, 2]] p r) % 2

/-- The first row device `c` keeps of half `p` after `n` rounds (1, 2 or 3). -/
def lo (p : Fin 2) (n : ℕ) (c : Dev nD) : ℕ :=
  512 * bit p 0 c + (if 2 ≤ n then 256 * bit p 1 c else 0) + (if 3 ≤ n then 128 * bit p 2 c else 0)

/-- The first element of the rows kept of half `p` after `n` rounds, in the 1024 by 1024 buffers -/
def corner (p : Fin 2) (n : ℕ) (c : Dev nD) : Fin 2 → ℕ := ![lo p n c, 512 * p.val]
/-- and in the result's block. -/
def corner3 (p : Fin 2) (n : ℕ) (c : Dev nD) : Fin 3 → ℕ := ![0, lo p n c, 512 * p.val]

theorem inb512 (p : Fin 2) (c : Dev nD) : ∀ a, corner p 1 c a + S512x512.size a ≤ S1024x1024.size a := by revert p c; decide
theorem inb256 (p : Fin 2) (c : Dev nD) : ∀ a, corner p 2 c a + S256x512.size a ≤ S1024x1024.size a := by revert p c; decide
theorem inb128 (p : Fin 2) (c : Dev nD) : ∀ a, corner p 3 c a + S128x512.size a ≤ S1024x1024.size a := by revert p c; decide
theorem inb512' (p : Fin 2) (c : Dev nD) : ∀ a, corner3 p 1 c a + S1x512x512.size a ≤ S1x1024x1024.size a := by revert p c; decide
theorem inb256' (p : Fin 2) (c : Dev nD) : ∀ a, corner3 p 2 c a + S1x256x512.size a ≤ S1x1024x1024.size a := by revert p c; decide
theorem inb128' (p : Fin 2) (c : Dev nD) : ∀ a, corner3 p 3 c a + S1x128x512.size a ≤ S1x1024x1024.size a := by revert p c; decide

/-- The rows device `c` keeps of half `p` after one, two and three rounds, as rectangles. -/
abbrev R512 (p : Fin 2) (c : Dev nD) : Rect S1024x1024 := Rect.unit (s := S1024x1024) (corner p 1 c) S512x512.size (inb512 p c)
abbrev R256 (p : Fin 2) (c : Dev nD) : Rect S1024x1024 := Rect.unit (s := S1024x1024) (corner p 2 c) S256x512.size (inb256 p c)
abbrev R128 (p : Fin 2) (c : Dev nD) : Rect S1024x1024 := Rect.unit (s := S1024x1024) (corner p 3 c) S128x512.size (inb128 p c)
abbrev Q512 (p : Fin 2) (c : Dev nD) : Rect S1x1024x1024 := Rect.unit (s := S1x1024x1024) (corner3 p 1 c) S1x512x512.size (inb512' p c)
abbrev Q256 (p : Fin 2) (c : Dev nD) : Rect S1x1024x1024 := Rect.unit (s := S1x1024x1024) (corner3 p 2 c) S1x256x512.size (inb256' p c)
abbrev Q128 (p : Fin 2) (c : Dev nD) : Rect S1x1024x1024 := Rect.unit (s := S1x1024x1024) (corner3 p 3 c) S1x128x512.size (inb128' p c)

/-! ## The printed offsets -/

theorem off1_eq (c : Dev nD) : k0_off1 c = corner 0 1 (part (dir (0, 0, 0)) c) := by revert c; decide
theorem off2_eq (c : Dev nD) : k0_off2 c = corner 1 1 (part (dir (0, 0, 1)) c) := by revert c; decide
theorem off3_eq (c : Dev nD) : k0_off3 c = corner 0 1 c := by revert c; decide
theorem off4_eq (c : Dev nD) : k0_off4 c = corner 1 1 c := by revert c; decide
theorem off5_eq (c : Dev nD) : k0_off5 c = corner 0 2 (part (dir (0, 1, 0)) c) := by revert c; decide
theorem off6_eq (c : Dev nD) : k0_off6 c = corner 1 2 (part (dir (0, 1, 1)) c) := by revert c; decide
theorem off7_eq (c : Dev nD) : k0_off7 c = corner 0 2 c := by revert c; decide
theorem off8_eq (c : Dev nD) : k0_off8 c = corner 1 2 c := by revert c; decide
theorem off9_eq (c : Dev nD) : k0_off9 c = corner 0 3 (part (dir (0, 2, 0)) c) := by revert c; decide
theorem off10_eq (c : Dev nD) : k0_off10 c = corner 1 3 (part (dir (0, 2, 1)) c) := by revert c; decide
theorem off11_eq (c : Dev nD) : k0_off11 c = corner 0 3 c := by revert c; decide
theorem off12_eq (c : Dev nD) : k0_off12 c = corner 1 3 c := by revert c; decide
theorem off13_eq (c : Dev nD) : k0_off13 c = corner 0 3 c := by revert c; decide
theorem off15_eq (c : Dev nD) : k0_off15 c = corner 1 3 c := by revert c; decide
theorem off17_eq (c : Dev nD) : k0_off17 c = corner 0 3 c := by revert c; decide
theorem off18_eq (c : Dev nD) : k0_off18 c = corner 1 3 c := by revert c; decide
theorem off19_eq (c : Dev nD) : k0_off19 c = corner 0 3 (part (dir (2, 0, 0)) c) := by revert c; decide
theorem off21_eq (c : Dev nD) : k0_off21 c = corner 1 3 (part (dir (2, 0, 1)) c) := by revert c; decide
theorem off23_eq (c : Dev nD) : k0_off23 c = corner 0 2 c := by revert c; decide
theorem off24_eq (c : Dev nD) : k0_off24 c = corner 1 2 c := by revert c; decide
theorem off25_eq (c : Dev nD) : k0_off25 c = corner 0 2 (part (dir (2, 1, 0)) c) := by revert c; decide
theorem off27_eq (c : Dev nD) : k0_off27 c = corner 1 2 (part (dir (2, 1, 1)) c) := by revert c; decide
theorem off29_eq (c : Dev nD) : k0_off29 c = corner 0 1 c := by revert c; decide
theorem off30_eq (c : Dev nD) : k0_off30 c = corner 1 1 c := by revert c; decide
theorem off31_eq (c : Dev nD) : k0_off31 c = corner 0 1 (part (dir (2, 2, 0)) c) := by revert c; decide
theorem off33_eq (c : Dev nD) : k0_off33 c = corner 1 1 (part (dir (2, 2, 1)) c) := by revert c; decide
theorem off14_eq (c : Dev nD) : k0_off14 c = corner3 0 3 c := by revert c; decide
theorem off16_eq (c : Dev nD) : k0_off16 c = corner3 1 3 c := by revert c; decide
theorem off20_eq (c : Dev nD) : k0_off20 c = corner3 0 3 (part (dir (2, 0, 0)) c) := by revert c; decide
theorem off22_eq (c : Dev nD) : k0_off22 c = corner3 1 3 (part (dir (2, 0, 1)) c) := by revert c; decide
theorem off26_eq (c : Dev nD) : k0_off26 c = corner3 0 2 (part (dir (2, 1, 0)) c) := by revert c; decide
theorem off28_eq (c : Dev nD) : k0_off28 c = corner3 1 2 (part (dir (2, 1, 1)) c) := by revert c; decide
theorem off32_eq (c : Dev nD) : k0_off32 c = corner3 0 1 (part (dir (2, 2, 0)) c) := by revert c; decide
theorem off34_eq (c : Dev nD) : k0_off34 c = corner3 1 1 (part (dir (2, 2, 1)) c) := by revert c; decide

end Cert.KernelIdeal.Run

end
-- ==== Proof.Contents.lean ====
/-
# Contents: what every buffer holds, as functions of the five inputs of every device

Over any float values. `head` is one attention head; `ctx` four of them side by side; `partA` and
`partB` a device's two partial output projections. `X1`, `X2`, `X3` are a partial projection after
each round of the reduce-scatter: what a device sends of it in a round (`s512`, `s256`, `s128`) is
rounded to bf16 and added, widened, to the partner's. `total` is the sum of both reduced parts on
the rows a device is left with; `gat` the gathered array, the same on every device.
-/
module

public import proofs.«01_k».proof.Proof.Mesh
public import proofs.«01_k».proof.Proof.Gen.KernelIdeal.Skeleton
public import Idealize.ShloMosaic.Lib.Memref
public import Idealize.ShloMosaic.Lib.Pipeline.Value

@[expose] public section

noncomputable section

namespace Cert.KernelIdeal.Run

open Cert.KernelIdeal Cert.KernelIdeal.Gen
open Idealize.ShloMosaic Idealize.ShloMosaic.TcCoe

variable {F : FTy → Type} [FloatOps F]

/-- The part of `X` on a rectangle. -/
abbrev sub {s : Shape} {α : Type} (r : Rect s) (X : s.Idx → α) : r.shape.Idx → α := fun i => X (r.emb i)

/-! ## The attention heads -/

/-- The queries of a device's eight heads. -/
def queries (x : Vec F S1x1024x1024 .bf16) (wq : Vec F S1024x1024 .bf16) : FVec F S1024x1024 .bf16 :=
  k0_pay5 (k0_pay3 x) (k0_pay4 wq) (constant S1024x1024 .f32 0x00000000#32)

theorem inbHead (h : Fin 8) : ∀ a, (![0, 0, h.val, 0] : Fin 4 → ℕ) a + S1x1024x1x128.size a ≤ S1x1024x8x128.size a := by
  revert h; decide
theorem slicesHead (h : Fin 8) : S1024x1024.Slices ![0, 128 * h.val] S1024x128 := by revert h; decide

/-- The rows of head `h` in a block of keys or values. -/
abbrev RH (h : Fin 8) : Rect S1x1024x8x128 := Rect.unit (s := S1x1024x8x128) ![0, 0, h.val, 0] S1x1024x1x128.size (inbHead h)

/-- Head `h` of a device. -/
def head (x : Vec F S1x1024x1024 .bf16) (wq : Vec F S1024x1024 .bf16) (k v : Vec F S1x1024x8x128 .bf16) (h : Fin 8) :
    FVec F S1024x128 .bf16 :=
  k0_pay9 k0_pay6 (extractStridedSlice S1024x128 ![0, 128 * h.val] (queries x wq) (slicesHead h)) (sub (RH h) k) (sub (RH h) v)

/-- The inputs of one device: `x`, its columns of `Wq`, its heads of keys and values, its rows of `Wo`. -/
structure In (F : FTy → Type) where
  x : Vec F S1x1024x1024 .bf16
  wq : Vec F S1024x1024 .bf16
  k : Vec F S1x1024x8x128 .bf16
  v : Vec F S1x1024x8x128 .bf16
  wo : Vec F S1024x1024 .bf16

/-- Head `h` on the inputs `I`. -/
abbrev In.head (I : In F) (h : Fin 8) : FVec F S1024x128 .bf16 := Run.head I.x I.wq I.k I.v h

theorem inbCols (h : Fin 8) : ∀ a, (![0, 128 * h.val] : Fin 2 → ℕ) a + S1024x128.size a ≤ S1024x1024.size a := by
  revert h; decide
theorem inbHalf (b : Fin 2) : ∀ a, (![0, 512 * b.val] : Fin 2 → ℕ) a + S1024x512.size a ≤ S1024x1024.size a := by
  revert b; decide

/-- The columns of head `h`, -/
abbrev RC (h : Fin 8) : Rect S1024x1024 := Rect.unit (s := S1024x1024) ![0, 128 * h.val] S1024x128.size (inbCols h)
/-- and of the heads 4b to 4b+3. -/
abbrev RB (b : Fin 2) : Rect S1024x1024 := Rect.unit (s := S1024x1024) ![0, 512 * b.val] S1024x512.size (inbHalf b)

/-- The place within its head of an element of the heads side by side. -/
def inHead (i : S1024x1024.Idx) : S1024x128.Idx := fun a =>
  match a with
  | ⟨0, _⟩ => i 0
  | ⟨1, _⟩ => ⟨(i 1).val % 128, Nat.mod_lt _ (by decide)⟩

/-- The eight heads side by side, -/
def In.heads (I : In F) : FVec F S1024x1024 .bf16 := fun i =>
  I.head ⟨(i 1).val / 128, by have h : (i 1).val < 1024 := (i 1).isLt; omega⟩ (inHead i)
/-- and the heads 4b to 4b+3. -/
def In.ctx (I : In F) (b : Fin 2) : FVec F S1024x512 .bf16 := sub (RB b) I.heads

/-- The partial output projection from the first four heads, -/
def partA (I : Dev nD → In F) (c : Dev nD) : FVec F S1024x1024 .f32 := k0_pay16 (I c).wo ((I c).ctx 0)
/-- and from the last four. -/
def partB (I : Dev nD → In F) (c : Dev nD) : FVec F S1024x1024 .f32 := k0_pay40 (k0_pay15 (I c).wo) ((I c).ctx 1)

/-! ## The reduce-scatter of a partial projection `P` -/

section Reduce
variable (P : Dev nD → FVec F S1024x1024 .f32)

/-- What `c` sends of half `p` in the first round, -/
def s512 (p : Fin 2) (c : Dev nD) : FVec F S512x512 .bf16 := k0_pay17 (sub (R512 p (part (dir (0, 0, p)) c)) (P c))
/-- what `c` holds when the rows `y` have come for half `p`, -/
def u512 (p : Fin 2) (c : Dev nD) (X : FVec F S1024x1024 .f32) (y : FVec F S512x512 .bf16) : FVec F S1024x1024 .f32 :=
  (R512 p c).overlay X (k0_pay22 (sub (R512 p c) X) y)
/-- and after the round. -/
def X1 (c : Dev nD) : FVec F S1024x1024 .f32 :=
  u512 1 c (u512 0 c (P c) (s512 P 0 (part (dir (0, 0, 0)) c))) (s512 P 1 (part (dir (0, 0, 1)) c))

/-- The second round. -/
def s256 (p : Fin 2) (c : Dev nD) : FVec F S256x512 .bf16 := k0_pay26 (sub (R256 p (part (dir (0, 1, p)) c)) (X1 P c))
def u256 (p : Fin 2) (c : Dev nD) (X : FVec F S1024x1024 .f32) (y : FVec F S256x512 .bf16) : FVec F S1024x1024 .f32 :=
  (R256 p c).overlay X (k0_pay28 (sub (R256 p c) X) y)
def X2 (c : Dev nD) : FVec F S1024x1024 .f32 :=
  u256 1 c (u256 0 c (X1 P c) (s256 P 0 (part (dir (0, 1, 0)) c))) (s256 P 1 (part (dir (0, 1, 1)) c))

/-- The third round. -/
def s128 (p : Fin 2) (c : Dev nD) : FVec F S128x512 .bf16 := k0_pay31 (sub (R128 p (part (dir (0, 2, p)) c)) (X2 P c))
def u128 (p : Fin 2) (c : Dev nD) (X : FVec F S1024x1024 .f32) (y : FVec F S128x512 .bf16) : FVec F S1024x1024 .f32 :=
  (R128 p c).overlay X (k0_pay37 (sub (R128 p c) X) y)
def X3 (c : Dev nD) : FVec F S1024x1024 .f32 :=
  u128 1 c (u128 0 c (X2 P c) (s128 P 0 (part (dir (0, 2, 0)) c))) (s128 P 1 (part (dir (0, 2, 1)) c))

end Reduce

/-! ## The sum of both parts, gathered -/

/-- The device left with rows 128k to 128k+127 of half `p`. -/
def owner (p : Fin 2) (k : Fin 8) : Dev nD := (![![0, 1, 2, 3, 4, 5, 6, 7], ![0, 4, 1, 5, 2, 6, 3, 7]] : Fin 2 → Fin 8 → Fin 8) p k

/-- What device `c` is left with of half `p`. -/
def total (I : Dev nD → In F) (p : Fin 2) (c : Dev nD) : FVec F S128x512 .f32 :=
  k0_pay55 (sub (R128 p c) (X3 (partA I) c)) (sub (R128 p c) (X3 (partB I) c))

/-- The half a column lies in. -/
def halfOf (i : S1024x1024.Idx) : Fin 2 := ⟨(i 1).val / 512, by have h : (i 1).val < 1024 := (i 1).isLt; omega⟩
/-- The chunk of 128 rows a row lies in. -/
def chunkOf (i : S1024x1024.Idx) : Fin 8 := ⟨(i 0).val / 128, by have h : (i 0).val < 1024 := (i 0).isLt; omega⟩
/-- The place within its chunk and half. -/
def within (i : S1024x1024.Idx) : S128x512.Idx := fun a => ⟨(i ⟨a.val, a.isLt⟩).val % S128x512.size a, Nat.mod_lt _ (by revert a; decide)⟩

/-- The reduced array, unrounded: row and column from the device left with them. -/
def reduced (I : Dev nD → In F) : FVec F S1024x1024 .f32 := fun i => total I (halfOf i) (owner (halfOf i) (chunkOf i)) (within i)
/-- The gathered array. -/
def gat (I : Dev nD → In F) : FVec F S1024x1024 .bf16 := truncf .bf16 (reduced I) bitsLt_bf16_f32
/-- The result of device `c`: the rows it was left with unrounded, the others as gathered. -/
def result (I : Dev nD → In F) (c : Dev nD) : FVec F S1x1024x1024 .f32 := fun i =>
  if owner (halfOf (fun a => i a.succ)) (chunkOf (fun a => i a.succ)) = c then reduced I (fun a => i a.succ)
  else extf .f32 (gat I) bitsLt_bf16_f32 (fun a => i a.succ)

/-! ## Facts -/

/-- The part of `Y` on a rectangle written over what already agrees with `Y` elsewhere. -/
theorem overlay_known {s : Shape} {α : Type} {r : Rect s} {X Y : s.Idx → α} {i : s.Idx} (h : i ∈ r.set ∨ X i = Y i) :
    r.overlay X (sub r Y) i = Y i := by
  rcases em (i ∈ r.set) with hi | hi
  · obtain ⟨j, rfl⟩ := r.exists_idx_of_mem hi; exact Rect.overlay_emb r X (sub r Y) j
  · exact (Rect.overlay_of_not_mem _ _ _ hi).trans (h.resolve_left hi)

theorem owner_lo (p : Fin 2) (c : Dev nD) : lo p 3 c < 1024 ∧ lo p 3 c % 128 = 0 ∧ owner p ⟨lo p 3 c / 128 % 8, Nat.mod_lt _ (by decide)⟩ = c := by
  revert p c; decide

/-- On the rows device `c` is left with the reduced array is what `c` holds. -/
theorem sub_reduced (I : Dev nD → In F) (p : Fin 2) (c : Dev nD) : sub (R128 p c) (reduced I) = total I p c := by
  funext j
  obtain ⟨h1, h2, h3⟩ := owner_lo p c
  have j0 : (j 0).val < 128 := (j 0).isLt
  have j1 : (j 1).val < 512 := (j 1).isLt
  have e0 : ((R128 p c).emb j 0).val = lo p 3 c + (j 0).val := by
    show lo p 3 c + 1 * (j 0).val = _; omega
  have e1 : ((R128 p c).emb j 1).val = 512 * p.val + (j 1).val := by
    show 512 * p.val + 1 * (j 1).val = _; omega
  have hp : halfOf ((R128 p c).emb j) = p := Fin.ext (by show ((R128 p c).emb j 1).val / 512 = p.val; rw [e1]; omega)
  have ho : owner p (chunkOf ((R128 p c).emb j)) = c := by
    refine Eq.trans (congrArg (owner p) (Fin.ext ?_)) h3
    show ((R128 p c).emb j 0).val / 128 = lo p 3 c / 128 % 8
    rw [e0]; omega
  have hw : within ((R128 p c).emb j) = j := by
    funext a
    apply Fin.ext
    match a with
    | ⟨0, _⟩ => show ((R128 p c).emb j 0).val % 128 = (j 0).val; rw [e0]; omega
    | ⟨1, _⟩ => show ((R128 p c).emb j 1).val % 512 = (j 1).val; rw [e1]; omega
  show reduced I ((R128 p c).emb j) = _
  unfold reduced; rw [hp, ho, hw]

/-- What device `c` puts into its gather buffer. -/
theorem sub_gat (I : Dev nD → In F) (p : Fin 2) (c : Dev nD) :
    sub (R128 p c) (gat I) = k0_pay57 (sub (R128 p c) (X3 (partA I) c)) (sub (R128 p c) (X3 (partB I) c)) := by
  show truncf .bf16 (sub (R128 p c) (reduced I)) bitsLt_bf16_f32 = _
  rw [sub_reduced]; exact (shapeCast_self _ _).symm

/-- On the columns of head `h` the heads side by side are head `h`. -/
theorem sub_heads (I : In F) (h : Fin 8) : sub (RC h) I.heads = I.head h := by
  funext j
  have j1 : (j 1).val < 128 := (j 1).isLt
  have e0 : ((RC h).emb j 0).val = (j 0).val := by show 0 + 1 * (j 0).val = _; omega
  have e1 : ((RC h).emb j 1).val = 128 * h.val + (j 1).val := by show 128 * h.val + 1 * (j 1).val = _; omega
  have hw : inHead ((RC h).emb j) = j := by
    funext a
    apply Fin.ext
    match a with
    | ⟨0, _⟩ => exact e0
    | ⟨1, _⟩ => show ((RC h).emb j 1).val % 128 = (j 1).val; rw [e1]; omega
  show I.head _ (inHead ((RC h).emb j)) = _
  rw [hw]
  exact congrArg (fun h => I.head h j) (Fin.ext (by show ((RC h).emb j 1).val / 128 = h.val; rw [e1]; omega))

theorem mem_RC (h : Fin 8) (i : S1024x1024.Idx) : i ∈ (RC h).set ↔ 128 * h.val ≤ (i 1).val ∧ (i 1).val < 128 * h.val + 128 := by
  rw [Rect.mem_set_unit]
  constructor
  · intro H; exact H 1
  · rintro H a
    match a with
    | ⟨0, _⟩ => exact ⟨Nat.zero_le _, by show (i 0).val < 0 + 1024; have : (i 0).val < 1024 := (i 0).isLt; omega⟩
    | ⟨1, _⟩ => exact H

/-- Four heads written side by side over anything. -/
theorem ctx_of_stores (I : In F) (b : Fin 2) (h₀ h₁ h₂ h₃ : Fin 8) (e₀ : h₀.val = 4 * b.val) (e₁ : h₁.val = 4 * b.val + 1)
    (e₂ : h₂.val = 4 * b.val + 2) (e₃ : h₃.val = 4 * b.val + 3) (G : S1024x1024.Idx → F .bf16) :
    sub (RB b) ((RC h₃).overlay ((RC h₂).overlay ((RC h₁).overlay ((RC h₀).overlay G (I.head h₀)) (I.head h₁)) (I.head h₂)) (I.head h₃))
      = I.ctx b := by
  rw [← sub_heads, ← sub_heads, ← sub_heads, ← sub_heads]
  funext j
  have j1 : (j 1).val < 512 := (j 1).isLt
  have hj : ((RB b).emb j 1).val = 512 * b.val + (j 1).val := by show 512 * b.val + 1 * (j 1).val = _; omega
  have cases : (RB b).emb j ∈ (RC h₃).set ∨ (RB b).emb j ∈ (RC h₂).set ∨ (RB b).emb j ∈ (RC h₁).set ∨ (RB b).emb j ∈ (RC h₀).set := by
    rw [mem_RC, mem_RC, mem_RC, mem_RC, hj]; omega
  show (RC h₃).overlay _ (sub (RC h₃) I.heads) ((RB b).emb j) = I.heads ((RB b).emb j)
  rcases cases with h | h | h | h
  · exact overlay_known (.inl h)
  · exact overlay_known (.inr (overlay_known (.inl h)))
  · exact overlay_known (.inr (overlay_known (.inr (overlay_known (.inl h)))))
  · exact overlay_known (.inr (overlay_known (.inr (overlay_known (.inr (overlay_known (.inl h)))))))

/-! ## The result from the stores -/

/-- A row of the reduced array among the rows kept by `c'`, whose owner is not `c`. -/
theorem result_ne (I : Dev nD → In F) (c : Dev nD) (i : S1x1024x1024.Idx)
    (h : owner (halfOf (fun a => i a.succ)) (chunkOf (fun a => i a.succ)) ≠ c) :
    result I c i = extf .f32 (gat I) bitsLt_bf16_f32 (fun a => i a.succ) := if_neg h

theorem halfOf_emb (p : Fin 2) (c : Dev nD) (j : (R128 p c).shape.Idx) : halfOf ((R128 p c).emb j) = p := Fin.ext (by
  have j1 : (j 1).val < 512 := (j 1).isLt
  show (512 * p.val + 1 * (j 1).val) / 512 = p.val; omega)

theorem chunkOf_emb (p : Fin 2) (c : Dev nD) (j : (R128 p c).shape.Idx) : owner p (chunkOf ((R128 p c).emb j)) = c := by
  obtain ⟨h1, h2, h3⟩ := owner_lo p c
  have j0 : (j 0).val < 128 := (j 0).isLt
  refine Eq.trans (congrArg (owner p) (Fin.ext ?_)) h3
  show (lo p 3 c + 1 * (j 0).val) / 128 = lo p 3 c / 128 % 8
  omega

theorem owner_emb (p : Fin 2) (c : Dev nD) (j : (R128 p c).shape.Idx) :
    owner (halfOf ((R128 p c).emb j)) (chunkOf ((R128 p c).emb j)) = c := by
  rw [halfOf_emb, chunkOf_emb]

theorem emb_succ (p : Fin 2) (n : ℕ) (c' : Dev nD) (m : ℕ) (inb : ∀ a, corner p n c' a + (![m, 512] : Fin 2 → ℕ) a ≤ S1024x1024.size a)
    (inb' : ∀ a, corner3 p n c' a + (![1, m, 512] : Fin 3 → ℕ) a ≤ S1x1024x1024.size a)
    (j : (⟨3, ![1, m, 512]⟩ : Shape).Idx) :
    (fun a => (Rect.unit (s := S1x1024x1024) (corner3 p n c') ![1, m, 512] inb').emb j a.succ : S1024x1024.Idx)
      = (Rect.unit (s := S1024x1024) (corner p n c') ![m, 512] inb).emb (fun a => j a.succ) := by
  funext a; exact Fin.ext (by match a with | ⟨0, _⟩ => rfl | ⟨1, _⟩ => rfl)

theorem pay56_apply (x y : FVec F S128x512 .f32) (j : S1x128x512.Idx) : k0_pay56 x y j = k0_pay55 x y (fun a => j a.succ) := by
  unfold k0_pay56
  exact shapeCast_addUnit_apply _ (k0_pay55 x y) _ j

/-- The rows a device keeps, written to the result, -/
theorem own_piece (I : Dev nD → In F) (p : Fin 2) (c : Dev nD) :
    k0_pay56 (sub (R128 p c) (X3 (partA I) c)) (sub (R128 p c) (X3 (partB I) c)) = sub (Q128 p c) (result I c) := by
  funext j
  have h : k0_pay56 (sub (R128 p c) (X3 (partA I) c)) (sub (R128 p c) (X3 (partB I) c)) j = total I p c (fun a => j a.succ) :=
    pay56_apply _ _ j
  have he : (fun a => (Q128 p c).emb j a.succ : S1024x1024.Idx) = (R128 p c).emb (fun a => j a.succ) := emb_succ p 3 c 128 (inb128 p c) (inb128' p c) j
  rw [h, ← sub_reduced]
  show reduced I ((R128 p c).emb (fun a => j a.succ)) = result I c ((Q128 p c).emb j)
  have hr : ∀ i : S1x1024x1024.Idx, owner (halfOf (fun a => i a.succ)) (chunkOf (fun a => i a.succ)) = c →
      result I c i = reduced I (fun a => i a.succ) := fun i h => if_pos h
  rw [hr _ (by rw [he]; exact owner_emb p c _), he]

/-- and the rows it is sent, for rows `R` of the gather buffer and the same rows `Q` of the result none of which `c` is
    left with. -/
theorem got_piece (I : Dev nD → In F) (p : Fin 2) (c c' : Dev nD) (n m : ℕ)
    (inb : ∀ a, corner p n c' a + (![m, 512] : Fin 2 → ℕ) a ≤ S1024x1024.size a)
    (inb' : ∀ a, corner3 p n c' a + (![1, m, 512] : Fin 3 → ℕ) a ≤ S1x1024x1024.size a)
    (hc : (⟨2, ![m, 512]⟩ : Shape).ShapeCasts ⟨3, ![1, m, 512]⟩)
    (hl : lo p n c' % 128 = 0) (ho : ∀ k : Fin 8, lo p n c' ≤ 128 * k.val → 128 * k.val < lo p n c' + m → owner p k ≠ c) :
    shapeCast ⟨3, ![1, m, 512]⟩ (extf .f32 (sub (Rect.unit (s := S1024x1024) (corner p n c') ![m, 512] inb) (gat I)) bitsLt_bf16_f32) hc
      = sub (Rect.unit (s := S1x1024x1024) (corner3 p n c') ![1, m, 512] inb') (result I c) := by
  funext j
  refine (shapeCast_addUnit_apply _ _ _ j).trans ?_
  have he := emb_succ p n c' m inb inb' j
  show _ = result I c ((Rect.unit (s := S1x1024x1024) (corner3 p n c') ![1, m, 512] inb').emb j)
  have j0 : (j 1).val < m := (j 1).isLt
  have j1 : (j 2).val < 512 := (j 2).isLt
  rw [result_ne]
  · rw [he]; rfl
  · rw [he]
    have hp : halfOf ((Rect.unit (s := S1024x1024) (corner p n c') ![m, 512] inb).emb (fun a => j a.succ)) = p := Fin.ext (by
      show (512 * p.val + 1 * (j 2).val) / 512 = p.val; omega)
    rw [hp]
    apply ho
    · show lo p n c' ≤ 128 * ((lo p n c' + 1 * (j 1).val) / 128); omega
    · show 128 * ((lo p n c' + 1 * (j 1).val) / 128) < lo p n c' + m; omega

theorem got128 (I : Dev nD → In F) (p : Fin 2) (c : Dev nD) :
    k0_pay62 (sub (R128 p (part (dir (2, 0, p)) c)) (gat I)) = sub (Q128 p (part (dir (2, 0, p)) c)) (result I c) :=
  got_piece I p c _ 3 128 _ _ _ (by revert p c; decide) (by revert p c; decide)
theorem got256 (I : Dev nD → In F) (p : Fin 2) (c : Dev nD) :
    k0_pay64 (sub (R256 p (part (dir (2, 1, p)) c)) (gat I)) = sub (Q256 p (part (dir (2, 1, p)) c)) (result I c) :=
  got_piece I p c _ 2 256 _ _ _ (by revert p c; decide) (by revert p c; decide)
theorem got512 (I : Dev nD → In F) (p : Fin 2) (c : Dev nD) :
    k0_pay1 (sub (R512 p (part (dir (2, 2, p)) c)) (gat I)) = sub (Q512 p (part (dir (2, 2, p)) c)) (result I c) :=
  got_piece I p c _ 1 512 _ _ _ (by revert p c; decide) (by revert p c; decide)

theorem mem_Q (p : Fin 2) (n : ℕ) (c' : Dev nD) (m : ℕ)
    (inb : ∀ a, corner3 p n c' a + (![1, m, 512] : Fin 3 → ℕ) a ≤ S1x1024x1024.size a) (i : S1x1024x1024.Idx) :
    i ∈ (Rect.unit (s := S1x1024x1024) (corner3 p n c') ![1, m, 512] inb).set
      ↔ (lo p n c' ≤ (i 1).val ∧ (i 1).val < lo p n c' + m) ∧ 512 * p.val ≤ (i 2).val ∧ (i 2).val < 512 * p.val + 512 := by
  rw [Rect.mem_set_unit]
  constructor
  · intro H; exact ⟨H 1, H 2⟩
  · rintro ⟨H₁, H₂⟩ a
    match a with
    | ⟨0, _⟩ => exact ⟨Nat.zero_le _, by show (i 0).val < 0 + 1; have : (i 0).val < 1 := (i 0).isLt; omega⟩
    | ⟨1, _⟩ => exact H₁
    | ⟨2, _⟩ => exact H₂

/-- The rows kept and the rows sent by the partners of the three rounds are all the rows. -/
theorem covers (p : Fin 2) (c : Dev nD) (i : ℕ) (hi : i < 1024) :
    (lo p 3 c ≤ i ∧ i < lo p 3 c + 128)
    ∨ (lo p 3 (part (dir (2, 0, p)) c) ≤ i ∧ i < lo p 3 (part (dir (2, 0, p)) c) + 128)
    ∨ (lo p 2 (part (dir (2, 1, p)) c) ≤ i ∧ i < lo p 2 (part (dir (2, 1, p)) c) + 256)
    ∨ (lo p 1 (part (dir (2, 2, p)) c) ≤ i ∧ i < lo p 1 (part (dir (2, 2, p)) c) + 512) := by
  have key : ∀ (p : Fin 2) (c : Dev nD), lo p 3 c % 128 = 0 ∧ lo p 3 (part (dir (2, 0, p)) c) % 128 = 0
      ∧ lo p 2 (part (dir (2, 1, p)) c) % 128 = 0 ∧ lo p 1 (part (dir (2, 2, p)) c) % 128 = 0
      ∧ ∀ k : Fin 8, k.val = lo p 3 c / 128 ∨ k.val = lo p 3 (part (dir (2, 0, p)) c) / 128
        ∨ (lo p 2 (part (dir (2, 1, p)) c) / 128 ≤ k.val ∧ k.val < lo p 2 (part (dir (2, 1, p)) c) / 128 + 2)
        ∨ (lo p 1 (part (dir (2, 2, p)) c) / 128 ≤ k.val ∧ k.val < lo p 1 (part (dir (2, 2, p)) c) / 128 + 4) := by decide
  obtain ⟨h1, h2, h3, h4, h⟩ := key p c
  have hk := h ⟨i / 128, by omega⟩
  simp only at hk
  omega

/-- The eight pieces stored over anything are the result. -/
theorem result_of_stores (I : Dev nD → In F) (c : Dev nD) (G : S1x1024x1024.Idx → F .f32) :
    (Q512 1 (part (dir (2, 2, 1)) c)).overlay ((Q512 0 (part (dir (2, 2, 0)) c)).overlay
      ((Q256 1 (part (dir (2, 1, 1)) c)).overlay ((Q256 0 (part (dir (2, 1, 0)) c)).overlay
        ((Q128 1 (part (dir (2, 0, 1)) c)).overlay ((Q128 0 (part (dir (2, 0, 0)) c)).overlay
          ((Q128 1 c).overlay ((Q128 0 c).overlay G
            (k0_pay56 (sub (R128 0 c) (X3 (partA I) c)) (sub (R128 0 c) (X3 (partB I) c))))
            (k0_pay56 (sub (R128 1 c) (X3 (partA I) c)) (sub (R128 1 c) (X3 (partB I) c))))
          (k0_pay62 (sub (R128 0 (part (dir (2, 0, 0)) c)) (gat I))))
          (k0_pay62 (sub (R128 1 (part (dir (2, 0, 1)) c)) (gat I))))
        (k0_pay64 (sub (R256 0 (part (dir (2, 1, 0)) c)) (gat I))))
        (k0_pay64 (sub (R256 1 (part (dir (2, 1, 1)) c)) (gat I))))
      (k0_pay1 (sub (R512 0 (part (dir (2, 2, 0)) c)) (gat I))))
      (k0_pay1 (sub (R512 1 (part (dir (2, 2, 1)) c)) (gat I))) = result I c := by
  rw [own_piece, own_piece, got128, got128, got256, got256, got512, got512]
  funext i
  have hi : (i 1).val < 1024 := (i 1).isLt
  have hj : (i 2).val < 1024 := (i 2).isLt
  rcases Nat.lt_or_ge (i 2).val 512 with h2 | h2
  · have hm := fun n c' m inb h => (mem_Q 0 n c' m inb i).2 ⟨h, by show 512 * 0 ≤ _; omega, by show _ < 512 * 0 + 512; omega⟩
    rcases covers 0 c (i 1).val hi with h | h | h | h
    · have h := hm 3 _ 128 (inb128' 0 _) h
      exact overlay_known (.inr (overlay_known (.inr (overlay_known (.inr (overlay_known (.inr (overlay_known (.inr (overlay_known (.inr (overlay_known (.inr (overlay_known (.inl h)))))))))))))))
    · have h := hm 3 _ 128 (inb128' 0 _) h
      exact overlay_known (.inr (overlay_known (.inr (overlay_known (.inr (overlay_known (.inr (overlay_known (.inr (overlay_known (.inl h)))))))))))
    · have h := hm 2 _ 256 (inb256' 0 _) h
      exact overlay_known (.inr (overlay_known (.inr (overlay_known (.inr (overlay_known (.inl h)))))))
    · have h := hm 1 _ 512 (inb512' 0 _) h
      exact overlay_known (.inr (overlay_known (.inl h)))
  · have hm := fun n c' m inb h => (mem_Q 1 n c' m inb i).2 ⟨h, by show 512 * 1 ≤ _; omega, by show _ < 512 * 1 + 512; omega⟩
    rcases covers 1 c (i 1).val hi with h | h | h | h
    · have h := hm 3 _ 128 (inb128' 1 _) h
      exact overlay_known (.inr (overlay_known (.inr (overlay_known (.inr (overlay_known (.inr (overlay_known (.inr (overlay_known (.inr (overlay_known (.inl h)))))))))))))
    · have h := hm 3 _ 128 (inb128' 1 _) h
      exact overlay_known (.inr (overlay_known (.inr (overlay_known (.inr (overlay_known (.inr (overlay_known (.inl h)))))))))
    · have h := hm 2 _ 256 (inb256' 1 _) h
      exact overlay_known (.inr (overlay_known (.inr (overlay_known (.inl h)))))
    · have h := hm 1 _ 512 (inb512' 1 _) h
      exact overlay_known (.inl h)

end Cert.KernelIdeal.Run

end
-- ==== Proof.Ops.lean ====
/-
# Ops: loads and stores of a memref owned at known contents

A memref owned at contents `X`: a load of a rectangle continues at `X`'s part there, a store leaves
`X` with that part replaced. The offsets of the rectangle are printed as arithmetic on the device's
number; each rule takes the equation that names them. A part of a memref may be held alone
(`owns` of a slice): parts that split a rectangle in two are split and joined by `owns_cut`.
-/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy (duties `Unit`) and the mesh's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `c`'s weakest precondition of a program of the kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns a memref at `X`, -/
abbrev own (c : Dev nD) {s : Shape} {e : EltTy} (m : Memref sig .tc .vmem s e) (X : s.Idx → Elt F e) : sProp 𝕄 :=
  owns (c : Thread nD τ) m fullShare X
/-- or at some contents, -/
def any (c : Dev nD) {s : Shape} {e : EltTy} (m : Memref sig .tc .vmem s e) : sProp 𝕄 := iprop(∃ X, own c m X)
/-- or all of it but a slice, at some contents. -/
def rest (c : Dev nD) {s : Shape} {e : EltTy} (m : Memref sig .tc .vmem s e) (r : Rect s) (hr : ∀ a, r.stride a = 1) : sProp 𝕄 :=
  iprop(∃ f, m.view.loc (c : Thread nD τ) ↦[m.view.set \ (m.slice r hr).view.set]{fullShare} f)

section Rules
variable (c : Dev nD) {s : Shape} {e : EltTy} {m : Memref sig .tc .vmem s e} {α : Type}
  {off off' size : Fin s.rank → ℕ} {h : ∀ a, off a + size a ≤ s.size a} {h' : ∀ a, off' a + size a ≤ s.size a} {X : s.Idx → Elt F e}

theorem load_own (he : off = off') {hl : m.view.LoadsAt (Rect.unit off size h).toLoadRect}
    {k : ((Rect.unit off size h).toLoadRect.shape.Idx → Elt F e) → Prog (TpuEff nD τ sig (Elt F) Λ₀ .tc) α} {Q : α → sProp 𝕄} :
    (own c m X : sProp 𝕄)
      ⊢ iprop((own c m X -∗ WP c (k (sub (Rect.unit off' size h') X)) Q)
        -∗ WP c (.op (.load m (Rect.unit off size h).toLoadRect hl) k) Q) := by
  subst he
  unfold own owns
  iintro ⟨%f, %hf, H⟩ Hk
  iapply (wp_load_rect 𝒱₀ (c : Thread nD τ) none Set.univ (m := m) (r := Rect.unit off size h) (S := m.view.set) (m.view.set_slice_subset _)) $$ H
  iintro H
  have hr : (m.access (Rect.unit off size h)).read (Elt F) f = sub (Rect.unit off size h) X := by rw [← hf]; rfl
  rw [hr]
  iapply Hk
  iexists f
  isplitr; · ipureintro; exact hf
  iexact H

theorem load_in (he : off = off') {hr} {Y} {hl : m.view.LoadsAt (Rect.unit off size h).toLoadRect}
    {k : ((Rect.unit off size h).toLoadRect.shape.Idx → Elt F e) → Prog (TpuEff nD τ sig (Elt F) Λ₀ .tc) α} {Q : α → sProp 𝕄} :
    (own c (m.slice (Rect.unit off' size h') hr) Y : sProp 𝕄)
      ⊢ iprop((own c (m.slice (Rect.unit off' size h') hr) Y -∗ WP c (k Y) Q)
        -∗ WP c (.op (.load m (Rect.unit off size h).toLoadRect hl) k) Q) := by
  subst he
  unfold own owns
  iintro ⟨%f, %hf, H⟩ Hk
  iapply (wp_load_rect 𝒱₀ (c : Thread nD τ) none Set.univ (m := m) (r := Rect.unit off size h)
    (S := (m.slice (Rect.unit off size h) hr).view.set) (Finset.Subset.refl _)) $$ H
  iintro H
  have hr' : (m.access (Rect.unit off size h)).read (Elt F) f = Y := hf
  rw [hr']
  iapply Hk
  iexists f
  isplitr; · ipureintro; exact hf
  iexact H

theorem read_write_slice (r : Rect s) (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    exact (View.read_slice_write_emb _ _ _ (Finset.mem_univ i)).trans (Rect.overlay_emb r _ w i).symm
  · rw [Rect.overlay_of_not_mem _ _ _ hj]; exact View.read_slice_write_of_not_mem _ _ _ _ (by rwa [Rect.map_emb_univ])

theorem store_own (he : off = off') {w : (Rect.unit off size h).shape.Idx → Elt F e}
    {hx : (m.access (Rect.unit off size h)).Stores Finset.univ} {hm} (X' : s.Idx → Elt F e)
    (hX : (Rect.unit off' size h').overlay X w = X')
    {k : PUnit → Prog (TpuEff nD τ sig (Elt F) Λ₀ .tc) α} {Q : α → sProp 𝕄} :
    (own c m X : sProp 𝕄)
      ⊢ iprop((own c m X' -∗ WP c (k ⟨⟩) Q)
        -∗ WP c (.op (.store m (Rect.unit off size h) w Finset.univ hx hm) k) Q) := by
  subst he
  unfold own owns
  iintro ⟨%f, %hf, H⟩ Hk
  iapply (wp_store 𝒱₀ (c : Thread nD τ) none Set.univ (m := m) (r := Rect.unit off size h) (Mk := Finset.univ) (S := m.view.set)
    (m.view.set_slice_subset _)) $$ H
  iintro H
  iapply Hk
  iexists _
  isplitr; rotate_left
  · iexact H
  · ipureintro; rw [← hX, ← hf]; exact read_write_slice _ f w

theorem store_in (he : off = off') {hr} {Y} {w : (Rect.unit off size h).shape.Idx → Elt F e}
    {hx : (m.access (Rect.unit off size h)).Stores Finset.univ} {hm} (w' : (Rect.unit off' size h').shape.Idx → Elt F e)
    (hw : w = w') {k : PUnit → Prog (TpuEff nD τ sig (Elt F) Λ₀ .tc) α} {Q : α → sProp 𝕄} :
    (own c (m.slice (Rect.unit off' size h') hr) Y : sProp 𝕄)
      ⊢ iprop((own c (m.slice (Rect.unit off' size h') hr) w' -∗ WP c (k ⟨⟩) Q)
        -∗ WP c (.op (.store m (Rect.unit off size h) w Finset.univ hx hm) k) Q) := by
  subst he; subst hw
  unfold own owns
  iintro ⟨%f, %hf, H⟩ Hk
  iapply (wp_store 𝒱₀ (c : Thread nD τ) none Set.univ (m := m) (r := Rect.unit off size h) (Mk := Finset.univ)
    (S := (m.slice (Rect.unit off size h) hr).view.set) (Finset.Subset.refl _)) $$ H
  iintro H
  iapply Hk
  iexists _
  isplitr; rotate_left
  · iexact H
  · ipureintro; exact View.read_write_univ _ _

/-- A slice of a memref lent: the rest stays, and joins again with the slice at any contents. -/
theorem lend (r : Rect s) (hr : ∀ a, r.stride a = 1) :
    (own c m X : sProp 𝕄) ⊢ iprop(own c (m.slice r hr) (sub r X) ∗ rest c m r hr) := by
  refine (owns_slice_split (c : Thread nD τ) m fullShare r hr X).trans (sep_mono_right ?_)
  unfold rest
  iintro ⟨%f, -, H⟩
  iexists f; iexact H

theorem unlend (r : Rect s) (hr : ∀ a, r.stride a = 1) (Y : r.shape.Idx → Elt F e) :
    iprop(own c (m.slice r hr) Y ∗ rest c m r hr) ⊢ (any c m : sProp 𝕄) := by
  unfold rest any
  iintro ⟨H, ⟨%f, Hf⟩⟩
  iexists _
  iapply (owns_slice_join (c : Thread nD τ) m fullShare r hr Y f)
  isplitl [H]; · iexact H
  iexact Hf

theorem any_intro : (own c m X : sProp 𝕄) ⊢ any c m := by unfold any; iintro H; iexists X; iexact H

theorem any_open : any c m ⊢ iprop(∃ X, own c m X : sProp 𝕄) := by unfold any; iintro H; iexact H

/-- A store into a slice of a memref of any contents, the slice taken out for a transfer. -/
theorem store_lend (he : off = off') {w : (Rect.unit off size h).shape.Idx → Elt F e}
    {hx : (m.access (Rect.unit off size h)).Stores Finset.univ} {hm} (w' : (Rect.unit off' size h').shape.Idx → Elt F e)
    (hw : w = w') (hr : ∀ a, (Rect.unit off' size h').stride a = 1) {k : PUnit → Prog (TpuEff nD τ sig (Elt F) Λ₀ .tc) α} {Q : α → sProp 𝕄} :
    (own c m X : sProp 𝕄)
      ⊢ iprop(((own c (m.slice (Rect.unit off' size h') hr) w' ∗ rest c m (Rect.unit off' size h') hr) -∗ WP c (k ⟨⟩) Q)
        -∗ WP c (.op (.store m (Rect.unit off size h) w Finset.univ hx hm) k) Q) := by
  subst he; subst hw
  refine (store_own c (h' := h) rfl _ rfl).trans (wand_mono_left (wand_mono_left ?_))
  refine (lend c _ hr).trans (sep_mono_left ?_)
  rw [show sub (Rect.unit off size h) ((Rect.unit off size h).overlay X w) = w from funext fun i => Rect.overlay_emb _ _ _ i]

end Rules

theorem mem_view_slice {s : Shape} {e : EltTy} (m : Memref sig .tc .vmem s e) (a : Rect s) (i : s.Idx) :
    m.view.emb i ∈ (m.view.slice a).set ↔ i ∈ a.set := by
  rw [View.set_slice]; exact Finset.mem_map' m.view.emb

theorem emb_mem {s : Shape} (r : Rect s) (j : r.shape.Idx) : r.emb j ∈ r.set :=
  r.map_emb_univ ▸ Finset.mem_map_of_mem _ (Finset.mem_univ j)

/-- Contents that read `X` on two halves, joined, read `X`. -/
theorem read_halves {s : Shape} {e : EltTy} (m : Memref sig .tc .vmem s e) (r a b : Rect s)
    (hr : ∀ i, r.stride i = 1) (ha : ∀ i, a.stride i = 1) (hb : ∀ i, b.stride i = 1)
    (hu : r.set = a.set ∪ b.set) (X : s.Idx → Elt F e) (f g : m.view.ty.Contents (Elt F))
    (hf : (m.slice a ha).view.read (Elt F) f = sub a X) (hg : (m.slice b hb).view.read (Elt F) g = sub b X) :
    (m.slice r hr).view.read (Elt F) ((m.slice b hb).view.set.piecewise g f) = sub r X := by
  have hf' : ∀ i ∈ a.set, m.view.read (Elt F) f i = X i := fun i hi => by
    obtain ⟨j, rfl⟩ := a.exists_idx_of_mem hi; exact congrFun hf j
  have hg' : ∀ i ∈ b.set, m.view.read (Elt F) g i = X i := fun i hi => by
    obtain ⟨j, rfl⟩ := b.exists_idx_of_mem hi; exact congrFun hg j
  have key : ∀ i ∈ r.set, m.view.read (Elt F) ((m.view.slice b).set.piecewise g f) i = X i := fun i hi => by
    rw [View.read_apply]
    by_cases hb' : i ∈ b.set
    · rw [Finset.piecewise_eq_of_mem _ _ _ ((mem_view_slice m b i).mpr hb'), ← View.read_apply]
      exact hg' i hb'
    · rw [Finset.piecewise_eq_of_notMem _ _ _ (fun h => hb' ((mem_view_slice m b i).mp h)), ← View.read_apply]
      exact hf' i ((Finset.mem_union.mp (hu ▸ hi)).resolve_right hb')
  exact funext fun j => key (r.emb j) (emb_mem r j)

/-- A slice over two disjoint halves is both halves. -/
theorem owns_cut (c : Dev nD) {s : Shape} {e : EltTy} (m : Memref sig .tc .vmem s e) (r a b : Rect s)
    (hr : ∀ i, r.stride i = 1) (ha : ∀ i, a.stride i = 1) (hb : ∀ i, b.stride i = 1)
    (hu : r.set = a.set ∪ b.set) (hd : Disjoint a.set b.set) (X : s.Idx → Elt F e) :
    (own c (m.slice r hr) (sub r X) : sProp 𝕄) ⊣⊢ iprop(own c (m.slice a ha) (sub a X) ∗ own c (m.slice b hb) (sub b X)) := by
  have hsr : (m.slice r hr).view.set = (m.slice a ha).view.set ∪ (m.slice b hb).view.set := by
    show (m.view.slice r).set = (m.view.slice a).set ∪ (m.view.slice b).set
    rw [View.set_slice, View.set_slice, View.set_slice, hu]
    exact Finset.map_union _ _
  have hds : Disjoint (m.slice a ha).view.set (m.slice b hb).view.set := by
    show Disjoint (m.view.slice a).set (m.view.slice b).set
    rw [View.set_slice, View.set_slice]
    exact (Finset.disjoint_map _).mpr hd
  constructor
  · unfold own owns
    iintro ⟨%f, %hf, H⟩
    have hX : ∀ i ∈ r.set, m.view.read (Elt F) f i = X i := fun i hi => by
      obtain ⟨j, rfl⟩ := r.exists_idx_of_mem hi; exact congrFun hf j
    ihave H' := (show (m.view.loc (c : Thread nD τ) ↦[(m.slice r hr).view.set]{fullShare} f : sProp 𝕄)
      ⊢ iprop((m.view.loc (c : Thread nD τ) ↦[(m.slice a ha).view.set]{fullShare} f) ∗ (m.view.loc (c : Thread nD τ) ↦[(m.slice b hb).view.set]{fullShare} f))
      by rw [hsr]; exact (pointsTo_union hds).1) $$ H
    icases H' with ⟨Ha, Hb⟩
    isplitl [Ha]
    · iexists f; isplitr
      · ipureintro; exact funext fun j => hX _ (hu ▸ Finset.mem_union_left _ (a.map_emb_univ ▸ Finset.mem_map_of_mem _ (Finset.mem_univ j)))
      iexact Ha
    · iexists f; isplitr
      · ipureintro; exact funext fun j => hX _ (hu ▸ Finset.mem_union_right _ (b.map_emb_univ ▸ Finset.mem_map_of_mem _ (Finset.mem_univ j)))
      iexact Hb
  · unfold own owns
    iintro ⟨⟨%f, %hf, Ha⟩, ⟨%g, %hg, Hb⟩⟩
    iexists (m.slice b hb).view.set.piecewise g f
    isplitr
    · ipureintro
      refine read_halves m r a b hr ha hb hu X f g hf hg
    · rw [hsr]
      iapply (pointsTo_join hds)
      isplitl [Ha]; · iexact Ha
      iexact Hb

end Cert.KernelIdeal.Run
-- ==== Proof.Protocol.lean ====
/-
# Protocol: who signals whom, what every landing hands over, in what order

Every semaphore of the mesh is a cell with one round. A device's BARRIER cell has three duties of one
unit, duty `j` paid at entry by the partner in direction `j`: it hands over the six places on the
partner that this device's transfers in that direction land in — so no transfer leaves before its
target has entered. A transfer's SEND cell hands the sent memref back to its owner, unchanged; its
RECEIVE cell, on the target, hands over the landing place with the sent contents. A `leg` lists a
transfer's source, landing place and contents.

Levels: a barrier cell at 1, the receive cell of the transfer issued `n`-th at `2 + n`. A device
waits for a receive cell only when it has issued every transfer up to that one.
-/
module

public import proofs.«01_k».proof.Proof.Ops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The transfers -/

/-- A transfer: its source on the sender, its landing place on the target, what it carries. -/
structure Leg (F : FTy → Type) where
  sh : Shape
  src : Memref sig .tc .vmem sh .bf16
  dst : Memref sig .tc .vmem sh .bf16
  val : sh.Idx → Elt F .bf16

abbrev stA0 : Memref sig .tc .vmem S512x512 .bf16 := Memref.whole cc0_scratch4
abbrev stA1 : Memref sig .tc .vmem S512x512 .bf16 := Memref.whole cc0_scratch5
abbrev stB0 : Memref sig .tc .vmem S512x512 .bf16 := Memref.whole cc0_scratch6
abbrev stB1 : Memref sig .tc .vmem S512x512 .bf16 := Memref.whole cc0_scratch7
abbrev gath : Memref sig .tc .vmem S1024x1024 .bf16 := Memref.whole cc0_scratch3

abbrev T512 : Rect S512x512 := Rect.unit (s := S512x512) ![0, 0] S512x512.size inb_S512x512_S512x512_0_0
abbrev T256 : Rect S512x512 := Rect.unit (s := S512x512) ![0, 0] S256x512.size inb_S512x512_S256x512_0_0
abbrev T128 : Rect S512x512 := Rect.unit (s := S512x512) ![0, 0] S128x512.size inb_S512x512_S128x512_0_0

/-- A transfer of the first, second and third round of a reduce-scatter of `P`: from a staging buffer to the landing buffer. -/
abbrev leg512 (P : Dev nD → FVec F S1024x1024 .f32) (p : Fin 2) (c : Dev nD) (st : Memref sig .tc .vmem S512x512 .bf16)
    (rv : Memref sig .tc .vmem S512x512 .bf16) : Leg F := ⟨S512x512, st.slice T512 (fun _ => rfl), rv, s512 P p c⟩
abbrev leg256 (P : Dev nD → FVec F S1024x1024 .f32) (p : Fin 2) (c : Dev nD) (st : Memref sig .tc .vmem S512x512 .bf16)
    (rv : Memref sig .tc .vmem S256x512 .bf16) : Leg F := ⟨S256x512, st.slice T256 (fun _ => rfl), rv, s256 P p c⟩
abbrev leg128 (P : Dev nD → FVec F S1024x1024 .f32) (p : Fin 2) (c : Dev nD) (st : Memref sig .tc .vmem S512x512 .bf16)
    (rv : Memref sig .tc .vmem S128x512 .bf16) : Leg F := ⟨S128x512, st.slice T128 (fun _ => rfl), rv, s128 P p c⟩

/-- The rows of the gathered array a device holds before each round of the all-gather. -/
abbrev g128 (p : Fin 2) (c : Dev nD) : Memref sig .tc .vmem S128x512 .bf16 := gath.slice (R128 p c) (fun _ => rfl)
abbrev g256 (p : Fin 2) (c : Dev nD) : Memref sig .tc .vmem S256x512 .bf16 := gath.slice (R256 p c) (fun _ => rfl)
abbrev g512 (p : Fin 2) (c : Dev nD) : Memref sig .tc .vmem S512x512 .bf16 := gath.slice (R512 p c) (fun _ => rfl)

def leg (I : Dev nD → In F) (c : Dev nD) (t : Xfer) : Leg F :=
  (![![![leg512 (partA I) 0 c stA0 (Memref.whole cc0_scratch8), leg512 (partA I) 1 c stA1 (Memref.whole cc0_scratch11)],
       ![leg256 (partA I) 0 c stA0 (Memref.whole cc0_scratch9), leg256 (partA I) 1 c stA1 (Memref.whole cc0_scratch12)],
       ![leg128 (partA I) 0 c stA0 (Memref.whole cc0_scratch10), leg128 (partA I) 1 c stA1 (Memref.whole cc0_scratch13)]],
     ![![leg512 (partB I) 0 c stB0 (Memref.whole cc0_scratch14), leg512 (partB I) 1 c stB1 (Memref.whole cc0_scratch17)],
       ![leg256 (partB I) 0 c stB0 (Memref.whole cc0_scratch15), leg256 (partB I) 1 c stB1 (Memref.whole cc0_scratch18)],
       ![leg128 (partB I) 0 c stB0 (Memref.whole cc0_scratch16), leg128 (partB I) 1 c stB1 (Memref.whole cc0_scratch19)]],
     ![![⟨S128x512, g128 0 c, g128 0 c, sub (R128 0 c) (gat I)⟩, ⟨S128x512, g128 1 c, g128 1 c, sub (R128 1 c) (gat I)⟩],
       ![⟨S256x512, g256 0 c, g256 0 c, sub (R256 0 c) (gat I)⟩, ⟨S256x512, g256 1 c, g256 1 c, sub (R256 1 c) (gat I)⟩],
       ![⟨S512x512, g512 0 c, g512 0 c, sub (R512 0 c) (gat I)⟩, ⟨S512x512, g512 1 c, g512 1 c, sub (R512 1 c) (gat I)⟩]]]
    : Fin 3 → Fin 3 → Fin 2 → Leg F) t.1 t.2.1 t.2.2

/-- The shape of what a transfer carries. -/
def shOf (t : Xfer) : Shape :=
  (![![S512x512, S256x512, S128x512], ![S512x512, S256x512, S128x512], ![S128x512, S256x512, S512x512]] : Fin 3 → Fin 3 → Shape) t.1 t.2.1

theorem leg_sh (I : Dev nD → In F) (c : Dev nD) (t : Xfer) : (leg I c t).sh = shOf t := by
  obtain ⟨a, b, p⟩ := t
  fin_cases a <;> fin_cases b <;> fin_cases p <;> rfl

/-- What a transfer adds to its two semaphores: it depends on that shape alone. -/
def credit (t : Xfer) : ℕ := RefSig.tileCredit (shOf t) .bf16

theorem credit_view {sh : Shape} (m : Memref sig .tc .vmem sh .bf16) : m.view.dmaCredit = RefSig.tileCredit sh .bf16 := rfl

theorem credit_pos (t : Xfer) : 0 < credit t := by
  obtain ⟨a, b, p⟩ := t
  refine RefSig.tileCredit_pos _ _ ?_
  revert a b p; decide

/-- The landing place of `d`'s transfer `t`, on the partner. -/
def land (I : Dev nD → In F) (d : Dev nD) (t : Xfer) : sProp 𝕄 := any (part (dir t) d) (leg I d t).dst

theorem land_part (I : Dev nD → In F) (c : Dev nD) (t : Xfer) :
    (land I (part (dir t) c) t : sProp 𝕄) = any c (leg I (part (dir t) c) t).dst := by unfold land; rw [part_part]

/-! ## The cells -/

/-- The cells of a device: the barrier, the send cells (`false`), the receive cells (`true`). -/
abbrev CK : Type := Option (Bool × Xfer)

abbrev barS : Sem sig := (SemArray.scalar (sig.barrier 0 rfl) : Sems sig S_).sem

def csem : CK → SemLoc sig
  | none => .reg barS
  | some (false, t) => .dma (sendS t)
  | some (true, t) => .dma (recvS t)

abbrev kcell (x : Dev nD × CK) : GSem nD τ sig := ((x.1 : Thread nD τ), csem x.2)
abbrev barCell (c : Dev nD) : GSem nD τ sig := ((c : Thread nD τ), .reg barS)
abbrev sendCell (c : Dev nD) (t : Xfer) : GSem nD τ sig := ((c : Thread nD τ), .dma (sendS t))
abbrev recvCell (c : Dev nD) (t : Xfer) : GSem nD τ sig := ((c : Thread nD τ), .dma (recvS t))

set_option backward.proofsInPublic true in
/-- Which cell a semaphore is. -/
def decode : SemLoc sig → Option CK
  | .reg s => if s = barS then some none else none
  | .dma q => if 6 ≤ q.val ∧ q.val < 42 then
      some (some (decide ((q.val - 6) % 12 / 6 = 1), (⟨(q.val - 6) / 12 % 3, Nat.mod_lt _ (by decide)⟩,
        ⟨(q.val - 6) % 6 / 2 % 3, Nat.mod_lt _ (by decide)⟩, ⟨(q.val - 6) % 2, Nat.mod_lt _ (by decide)⟩)))
      else none

theorem decode_csem (k : CK) : decode (csem k) = some k := by revert k; decide

theorem csem_injective : Function.Injective csem := fun a b h =>
  Option.some.inj ((decode_csem a).symm.trans ((congrArg decode h).trans (decode_csem b)))

/-! ## The schedule -/

section Sched
variable (I : Dev nD → In F)

/-- What the partner in direction `j` hands device `d` at entry. -/
def barPay (d : Dev nD) (j : Fin 3) : sProp 𝕄 :=
  (![iprop(land I d (0, 1, 1) ∗ land I d (0, 2, 0) ∗ land I d (1, 1, 1) ∗ land I d (1, 2, 0) ∗ land I d (2, 0, 0) ∗ land I d (2, 1, 1)),
     iprop(land I d (0, 0, 1) ∗ land I d (0, 1, 0) ∗ land I d (1, 0, 1) ∗ land I d (1, 1, 0) ∗ land I d (2, 1, 0) ∗ land I d (2, 2, 1)),
     iprop(land I d (0, 0, 0) ∗ land I d (0, 2, 1) ∗ land I d (1, 0, 0) ∗ land I d (1, 2, 1) ∗ land I d (2, 0, 1) ∗ land I d (2, 2, 0))]
    : Fin 3 → sProp 𝕄) j

/-- The sent memref, back. -/
def sendPay (c : Dev nD) (t : Xfer) : sProp 𝕄 := own c (leg I c t).src (leg I c t).val
/-- What `d` sent, on the partner. -/
def recvPay (d : Dev nD) (t : Xfer) : sProp 𝕄 := own (part (dir t) d) (leg I d t).dst (leg I d t).val

def payOf (c : Dev nD) (d : Fin 3) : CK → sProp 𝕄
  | none => barPay I c d
  | some (false, t) => sendPay I c t
  | some (true, t) => recvPay I (part (dir t) c) t

def dutiesOf : CK → Finset (Fin 3)
  | none => Finset.univ
  | some _ => {0}

def amountOf' : CK → ℕ
  | none => 1
  | some (_, t) => credit t

def Rd : Rounds.Schedule (GSem nD τ sig) (Fin 3) 𝕄 where
  duties g r := if r = 0 ∧ g.1.2 = .tc then ((decode g.2).map dutiesOf).getD ∅ else ∅
  unitless _ := False
  amount g _ _ := ((decode g.2).map amountOf').getD 1
  payload g _ d := ((decode g.2).map (payOf I g.1.1 d)).getD iprop(emp)
  amount_pos g _ _ _ := by
    rcases decode g.2 with _ | (_ | ⟨_, t⟩)
    · exact Nat.one_pos
    · exact Nat.one_pos
    · exact credit_pos t

instance any_storable (c : Dev nD) {s : Shape} {e : EltTy} (m : Memref sig .tc .vmem s e) :
    BI.Storable (upEmb : UEmb _ 𝕄) (any c m : sProp 𝕄) := by unfold any; infer_instance
instance land_storable (d : Dev nD) (t : Xfer) : BI.Storable (upEmb : UEmb _ 𝕄) (land I d t) := by unfold land; infer_instance

instance payOf_storable (c : Dev nD) (d : Fin 3) (k : CK) : BI.Storable (upEmb : UEmb _ 𝕄) (payOf I c d k) := by
  rcases k with _ | ⟨_ | _, t⟩
  · show BI.Storable (upEmb : UEmb _ 𝕄) (barPay I c d)
    fin_cases d
    · show BI.Storable (upEmb : UEmb _ 𝕄) iprop(land I c (0, 1, 1) ∗ land I c (0, 2, 0) ∗ land I c (1, 1, 1) ∗ land I c (1, 2, 0) ∗ land I c (2, 0, 0) ∗ land I c (2, 1, 1))
      infer_instance
    · show BI.Storable (upEmb : UEmb _ 𝕄) iprop(land I c (0, 0, 1) ∗ land I c (0, 1, 0) ∗ land I c (1, 0, 1) ∗ land I c (1, 1, 0) ∗ land I c (2, 1, 0) ∗ land I c (2, 2, 1))
      infer_instance
    · show BI.Storable (upEmb : UEmb _ 𝕄) iprop(land I c (0, 0, 0) ∗ land I c (0, 2, 1) ∗ land I c (1, 0, 0) ∗ land I c (1, 2, 1) ∗ land I c (2, 0, 1) ∗ land I c (2, 2, 0))
      infer_instance
  · show BI.Storable (upEmb : UEmb _ 𝕄) (sendPay I c t); unfold sendPay; infer_instance
  · show BI.Storable (upEmb : UEmb _ 𝕄) (recvPay I (part (dir t) c) t); unfold recvPay; infer_instance

instance Rd_storable (g : GSem nD τ sig) (r : ℕ) (d : Fin 3) : BI.Storable (upEmb : UEmb _ 𝕄) ((Rd I).payload g r d) := by
  show BI.Storable (upEmb : UEmb _ 𝕄) (((decode g.2).map (payOf I g.1.1 d)).getD iprop(emp))
  rcases decode g.2 with _ | k
  · show BI.Storable (upEmb : UEmb _ 𝕄) (iprop(emp) : sProp 𝕄); infer_instance
  · show BI.Storable (upEmb : UEmb _ 𝕄) (payOf I g.1.1 d k); infer_instance

theorem duties_cell (x : Dev nD × CK) : (Rd I).duties (kcell x) 0 = dutiesOf x.2 := by
  refine (if_pos (c := (0 : ℕ) = 0 ∧ (kcell x).1.2 = .tc) (e := ∅) (And.intro rfl rfl)).trans ?_
  show ((decode (csem x.2)).map dutiesOf).getD ∅ = _
  rw [decode_csem]; rfl
theorem duties_later (g : GSem nD τ sig) : ∀ r, 1 ≤ r → (Rd I).duties g r = ∅ :=
  fun r hr => by show (if _ then _ else _) = _; rw [if_neg fun h => by omega]
theorem amount_cell (x : Dev nD × CK) (d : Fin 3) : (Rd I).amount (kcell x) 0 d = amountOf' x.2 := by
  show ((decode (csem x.2)).map amountOf').getD 1 = _
  rw [decode_csem]; rfl
theorem payload_cell (x : Dev nD × CK) (d : Fin 3) : (Rd I).payload (kcell x) 0 d = payOf I x.1 d x.2 := by
  show ((decode (csem x.2)).map (payOf I x.1 d)).getD iprop(emp) = _
  rw [decode_csem]; rfl

theorem expect_bar (c : Dev nD) : (Rd I).expect (kcell (c, none)) 0 = 3 := by
  unfold Schedule.expect Schedule.amountOf
  rw [duties_cell, Finset.sum_congr rfl fun d _ => amount_cell I (c, none) d]; rfl
theorem expect_xfer (c : Dev nD) (b : Bool) (t : Xfer) : (Rd I).expect (kcell (c, some (b, t))) 0 = credit t := by
  unfold Schedule.expect Schedule.amountOf
  rw [duties_cell, Finset.sum_congr rfl fun d _ => amount_cell I (c, some (b, t)) d]; exact Finset.sum_singleton _ _

theorem rest_bar (c : Dev nD) : bigSep ((Rd I).duties (kcell (c, none)) 0 \ ∅) (fun d => (Rd I).payload (kcell (c, none)) 0 d)
    = (iprop(barPay I c 0 ∗ barPay I c 1 ∗ barPay I c 2) : sProp 𝕄) := by
  rw [Finset.sdiff_empty, duties_cell]
  show bigSep Finset.univ _ = _
  rw [bigSep_univ_eq_bigSepL [0, 1, 2] (by decide) (by decide), bigSepL_cons_cons, bigSepL_cons_cons, bigSepL_singleton,
    payload_cell, payload_cell, payload_cell]
  rfl
theorem rest_xfer (c : Dev nD) (b : Bool) (t : Xfer) :
    bigSep ((Rd I).duties (kcell (c, some (b, t))) 0 \ ∅) (fun d => (Rd I).payload (kcell (c, some (b, t))) 0 d) = payOf I c 0 (some (b, t)) := by
  rw [Finset.sdiff_empty, duties_cell]
  show bigSep {0} _ = _
  rw [bigSep_singleton, payload_cell]

end Sched

/-! ## Levels, and what a device owes -/

def L (g : GSem nD τ sig) : Finset Unit := if g.1.2 = .tc then {()} else ∅

def lvOf : CK → ℕ
  | none => 1
  | some (false, _) => 0
  | some (true, t) => 2 + rank t

def lv (g : GSem nD τ sig) (_ : Unit) : ℕ := ((decode g.2).map lvOf).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Dev nD × CK) : lv (kcell x) () = lvOf x.2 := by
  show ((decode (csem x.2)).map lvOf).getD 0 = _
  rw [decode_csem]; rfl

/-- What `c` owes for the transfer `t`. -/
abbrev due (c : Dev nD) (t : Xfer) : CellTallies nD τ sig Unit := tallyAt (recvCell (part (dir t) c) t) () (credit t)
/-- What `c` owes when it has issued its first `n` transfers, -/
def owe (c : Dev nD) (n : ℕ) : CellTallies nD τ sig Unit := ∑ t with n ≤ rank t, due c t
/-- and before its signals. -/
def owe₀ (c : Dev nD) : CellTallies nD τ sig Unit :=
  owe c 0 + tallyAt (barCell (part 2 c)) () 1 + tallyAt (barCell (part 1 c)) () 1 + tallyAt (barCell (part 0 c)) () 1

theorem owe_step (c : Dev nD) (t : Xfer) : owe c (rank t) = owe c (rank t + 1) + due c t := by
  unfold owe
  have h : (Finset.univ.filter fun u : Xfer => rank t ≤ rank u) = insert t (Finset.univ.filter fun u : Xfer => rank t + 1 ≤ rank u) := by
    ext u
    simp only [Finset.mem_filter, Finset.mem_univ, true_and, Finset.mem_insert]
    refine ⟨fun h => ?_, fun h => ?_⟩
    · rcases Nat.eq_or_lt_of_le h with e | l
      · exact Or.inl (rank_injective e.symm)
      · exact Or.inr l
    · rcases h with rfl | h
      · exact le_rfl
      · omega
  rw [h, Finset.sum_insert (by simp), add_comm]

theorem owe_end (c : Dev nD) : owe c 18 = 0 := by
  unfold owe
  rw [Finset.filter_false_of_mem, Finset.sum_empty]
  intro t _; revert t; decide

theorem owe_pos {c : Dev nD} {n : ℕ} {g : GSem nD τ sig} {u : Unit} (h : 0 < owe c n g u) :
    ∃ t, n ≤ rank t ∧ g = recvCell (part (dir t) c) t := by
  by_contra hn
  have h0 : owe c n g u = 0 := by
    unfold owe
    rw [Finset.sum_apply, Finsupp.finset_sum_apply]
    refine Finset.sum_eq_zero fun t ht => ?_
    rw [tallyAt_apply]
    refine if_neg fun hg => hn ⟨t, (Finset.mem_filter.mp ht).2, hg.1⟩
  omega

theorem owe₀_pos {c : Dev nD} {g : GSem nD τ sig} {u : Unit} (h : 0 < owe₀ c g u) :
    (∃ t, g = recvCell (part (dir t) c) t) ∨ ∃ j, g = barCell (part j c) := by
  by_contra hn
  rw [not_or, not_exists, not_exists] at hn
  have h0 : owe c 0 g u = 0 := by
    by_contra h'
    obtain ⟨t, -, ht⟩ := owe_pos (Nat.pos_of_ne_zero h')
    exact hn.1 t ht
  unfold owe₀ at h
  rw [Pi.add_apply, Finsupp.add_apply, Pi.add_apply, Finsupp.add_apply, Pi.add_apply, Finsupp.add_apply, h0, tallyAt_apply, tallyAt_apply, tallyAt_apply,
    if_neg (fun h' => hn.2 2 h'.1), if_neg (fun h' => hn.2 1 h'.1), if_neg (fun h' => hn.2 0 h'.1)] at h
  exact Nat.lt_irrefl 0 h

theorem mayWait (c : Dev nD) (k : CK) (n : ℕ) (hk : lvOf k < 2 + n) :
    (levAts L lv : sProp 𝕄) ⊢ MayWait (c : Thread nD τ) (csem k) () (owe c n) :=
  MayOwe.of_cut (L := L) (lev := lv) (1 + n) (fun p hp => by rw [Finset.mem_singleton.mp hp, L_tc]; exact Finset.mem_singleton_self _)
    (fun g u hg => by obtain ⟨t, -, rfl⟩ := owe_pos hg; rw [L_tc]; exact Finset.mem_singleton_self _)
    (fun p hp => by rw [Finset.mem_singleton.mp hp]; show lv (kcell (c, k)) () ≤ _; rw [lv_cell]; show lvOf k ≤ _; omega)
    (fun g u hg => by
      obtain ⟨t, ht, rfl⟩ := owe_pos hg
      show _ < lv (kcell (part (dir t) c, some (true, t))) ()
      rw [lv_cell]; show _ < 2 + rank t; omega)

/-- A wait on a staging semaphore of the windows, at launch and at the end. -/
theorem mayWait_stage (c : Dev nD) (q : DmaSem sig) (hq : decode (.dma q) = none) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owe₀_pos hg with ⟨t, rfl⟩ | ⟨j, rfl⟩ <;> (rw [L_tc]; exact Finset.mem_singleton_self _))
      (fun p hp => by rw [Finset.mem_singleton.mp hp]; show ((decode (.dma q)).map lvOf).getD 0 ≤ 0; rw [hq]; exact le_rfl)
      (fun g u hg => by
        rcases owe₀_pos hg with ⟨t, rfl⟩ | ⟨j, rfl⟩
        · show _ < lv (kcell (part (dir t) c, some (true, t))) (); rw [lv_cell]; show _ < 2 + rank t; omega
        · show _ < lv (kcell (part j c, none)) (); rw [lv_cell]; exact Nat.one_pos)
  · rw [MayWait_zero]; iintro -; iempintro

end Cert.KernelIdeal.Run
-- ==== Proof.Steps.lean ====
/-
# Steps: one rule for each kind of synchronisation

Every transfer of a device goes through four states — `ready`, `sent`, `pend`, `done` —, changed by the
send, the wait on its send cell and the wait on the receive cell of the transfer that comes back in
the same round and half.
-/
module

public import proofs.«01_k».proof.Proof.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ)

/-! ## What all devices know -/

/-- Every cell's invariant, and that its round 0 is reached. -/
def records : sProp 𝕄 :=
  iprop((bigSep Finset.univ fun x : Dev nD × CK => cellInv ER (Rd I) (K x) (kcell x))
    ∗ bigSep Finset.univ fun x : Dev nD × CK => reached ER (kcell x) 0)

instance records_persistent : BI.Persistent (records I K : sProp 𝕄) := by unfold records; infer_instance

theorem inv_of (x : Dev nD × CK) : (bigSep Finset.univ fun x : Dev nD × CK => (cellInv ER (Rd I) (K x) (kcell x) : sProp 𝕄))
    ⊢ cellInv ER (Rd I) (K x) (kcell x) := bigSep_elim (Finset.mem_univ x)
omit [FloatOps F] in
theorem reached_of (x : Dev nD × CK) : (bigSep Finset.univ fun x : Dev nD × CK => (reached ER (kcell x) 0 : sProp 𝕄))
    ⊢ reached ER (kcell x) 0 := bigSep_elim (Finset.mem_univ x)
theorem inv_at (x : Dev nD × CK) : (records I K : sProp 𝕄) ⊢ cellInv ER (Rd I) (K x) (kcell x) := by
  unfold records; iintro ⟨#HI, -⟩; iapply (inv_of I K x); iexact HI
theorem reached_at (x : Dev nD × CK) : (records I K : sProp 𝕄) ⊢ reached ER (kcell x) 0 := by
  unfold records; iintro ⟨-, #HR⟩; iapply (reached_of (F := F) x); iexact HR

def env : sProp 𝕄 := iprop(records I K ∗ levAts L lv)
instance env_persistent : BI.Persistent (env I K : sProp 𝕄) := by unfold env; infer_instance

/-! ## The states of a transfer -/

section States
variable (c : Dev nD) (t : Xfer)

/-- Before the send: its two duty tokens, the positions at both cells, the credit for the receive cell; -/
def ready : sProp 𝕄 :=
  iprop(dutyTok ER (sendCell c t) 0 0 ∗ dutyTok ER (recvCell (part (dir t) c) t) 0 0 ∗ atPos ER (sendCell c t) 0 ∅ 0
    ∗ atPos ER (recvCell c t) 0 ∅ 0 ∗ cred (tallyAt (recvCell c t) () (credit t)))
/-- issued: the credit for the send cell; -/
def sent : sProp 𝕄 :=
  iprop(cred (tallyAt (sendCell c t) () (credit t)) ∗ atPos ER (sendCell c t) 0 ∅ 0
    ∗ atPos ER (recvCell c t) 0 ∅ 0 ∗ cred (tallyAt (recvCell c t) () (credit t)))
/-- the send cell closed; -/
def pend : sProp 𝕄 :=
  iprop(semVal (sendCell c t) 0 ∗ atPos ER (recvCell c t) 0 ∅ 0 ∗ cred (tallyAt (recvCell c t) () (credit t)))
/-- both closed. -/
def done : sProp 𝕄 := iprop(semVal (sendCell c t) 0 ∗ semVal (recvCell c t) 0)
end States

/-- Device `c` owes what is left after its first `n` transfers. -/
def owing (c : Dev nD) (n : ℕ) : sProp 𝕄 := iprop(∃ W, owes (c : Thread nD τ) (owe c n) W)

/-! ## The rules -/

section Rules
variable (c : Dev nD) {α : Type} {k : PUnit → Prog (TpuEff nD τ sig (Elt F) Λ₀ .tc) α}

theorem mem_xfer (b : Bool) (t : Xfer) : (0 : Fin 3) ∈ (Rd I).duties (kcell (c, some (b, t)) : GSem nD τ sig) 0 := by
  rw [duties_cell I (c, some (b, t))]; exact Finset.mem_singleton_self _
theorem mem_bar (j : Fin 3) : j ∈ (Rd I).duties (kcell (c, none) : GSem nD τ sig) 0 := by
  rw [duties_cell I (c, none)]; exact Finset.mem_univ _
theorem payload_send (t : Xfer) : (Rd I).payload (sendCell c t) 0 0 = (sendPay I c t : sProp 𝕄) := payload_cell I (c, some (false, t)) 0
theorem payload_recv (t : Xfer) : (Rd I).payload (recvCell (part (dir t) c) t) 0 0 = (recvPay I c t : sProp 𝕄) := by
  refine (payload_cell I (part (dir t) c, some (true, t)) 0).trans ?_
  show recvPay I (part (dir t) (part (dir t) c)) t = _
  rw [part_part]

/-- Issue transfer `t`: its source at the sent contents and its landing place are given away. -/
theorem send_step {Q : α → sProp 𝕄} (t : Xfer) {sh : Shape} {src dst src' dst' : Memref sig .tc .vmem sh .bf16} {v : sh.Idx → Elt F .bf16}
    (hl : leg I c t = ⟨sh, src, dst, v⟩) (hsr : src' = src) (hds : dst' = dst) {n : Dev nD} (hn : n = part (dir t) c) {sS sR : DmaSem sig} (hS : sS = sendS t) (hR : sR = recvS t)
    {hsc : (dst' : Memref sig (Dev.tc n : Thread nD τ).2.kind .vmem sh .bf16).view.ref.isScScratch = false}
    {hsrc : src'.view.WordExact} {hdst : dst'.view.WordExact}
    {hsem : DmaTarget.Typed .vmem (.dma sR) (.remote (Dev.tc n : Thread nD τ) dst' (.dma sS) hsc)} (m : ℕ) (hm : rank t = m) :
    iprop(env I K ∗ own c src v ∗ land I c t ∗ owing c m ∗ ready c t)
      ⊢ iprop(((sent c t ∗ owing c (m + 1)) -∗ WP c (k ⟨⟩) Q)
        -∗ WP c (.op (.enqueueDma src' (.remote (Dev.tc n : Thread nD τ) dst' (.dma sS) hsc) (.dma sR) hsrc hdst hsem) k) Q) := by
  subst hn hS hR hm src' dst'
  have hcr : RefSig.tileCredit sh .bf16 = credit t := by
    have h : (leg I c t).sh = sh := by rw [hl]
    unfold credit; rw [← leg_sh I c t, h]
  have hdst' : land I c t = (any (part (dir t) c) dst : sProp 𝕄) := by unfold land; rw [hl]
  have hs' : sendPay I c t = (own c src v : sProp 𝕄) := by unfold sendPay; rw [hl]
  have hr' : recvPay I c t = (own (part (dir t) c) dst v : sProp 𝕄) := by unfold recvPay; rw [hl]
  have hpayS : ∀ f, src.view.read (Elt F) f = v → ((src.view.loc (c : Thread nD τ) ↦[src.view.set]{fullShare} f : sProp 𝕄)
      ⊢ (Rd I).payload (sendCell c t) 0 0) := fun f hf => by
    refine (owns_intro (c : Thread nD τ) src fullShare f).trans (Entails.of_eq ?_)
    rw [payload_send, hs', ← hf]
  have hpayR : ∀ f, src.view.read (Elt F) f = v → ∀ g, ((dst.view.loc (part (dir t) c : Thread nD τ) ↦[dst.view.set]{fullShare}
      dst.view.write (Elt F) g (src.view.read (Elt F) f) Finset.univ : sProp 𝕄) ⊢ (Rd I).payload (recvCell (part (dir t) c) t) 0 0) := fun f hf g => by
    refine (owns_intro (part (dir t) c : Thread nD τ) dst fullShare _).trans (Entails.of_eq ?_)
    rw [payload_recv, hr', ← hf, View.read_write_univ]
  have hN : dst.view.amount (.dma (recvS t)) = credit t := hcr
  have hkS : (Rd I).amount (sendCell c t) 0 0 = credit t := amount_cell I (c, some (false, t)) 0
  have hkR : (Rd I).amount (recvCell (part (dir t) c) t) 0 0 = credit t := amount_cell I (part (dir t) c, some (true, t)) 0
  have hO : owe c (rank t) = owe c (rank t + 1) + tallyAt (recvCell (part (dir t) c) t) () (credit t) := owe_step c t
  have hmS : (0 : Fin 3) ∈ (Rd I).duties (sendCell c t) 0 := mem_xfer I c false t
  have hmR : (0 : Fin 3) ∈ (Rd I).duties (recvCell (part (dir t) c) t) 0 := mem_xfer I (part (dir t) c) true t
  rw [hdst']
  unfold env owing ready any own owns
  iintro ⟨⟨#Hrec, -⟩, ⟨%f, %hf, Hs⟩, ⟨%X, ⟨%g, %hg, Hd⟩⟩, ⟨%W, HO⟩, HtS, HtR, HaS, HaR, HcR⟩ Hk
  iapply (Rounds.wp_send_pointsTo 𝒱₀ ER (Rd I) (c : Thread nD τ) none (κ₁ := K (c, some (false, t))) (κ₂ := K (part (dir t) c, some (true, t)))
    (c' := (part (dir t) c : Thread nD τ)) (sS := .dma (sendS t)) (sem := .dma (recvS t)) (hsrc := hsrc) (hdst := hdst) (hsem := hsem)
    (k := k) (Q := Q) (src := src) (dst := dst) (hsc := hsc) (q := fullShare)
    (r₁ := 0) (r₂ := 0) (d₁ := 0) (d₂ := 0) (fs := f) (fd := g) (defs := defs₀ (F := F)) (Γ := {}) (Es := Set.univ)
    hmS hmR () () (credit t) hN hkS hkR (owe c (rank t + 1)) hO (W := W) (hpayS f hf) (hpayR f hf g) (by routes)) $$ [Hs Hd HO HtS HtR]
  · isplitr; · iapply (inv_at I K (c, some (false, t))); iexact Hrec
    isplitr; · iapply (inv_at I K (part (dir t) c, some (true, t))); iexact Hrec
    isplitl [Hs]; · iexact Hs
    isplitl [Hd]; · iexact Hd
    isplitl [HO]; · iexact HO
    isplitl [HtS]; · iexact HtS
    isplitr; · iapply (reached_at I K (c, some (false, t))); iexact Hrec
    isplitl [HtR]; · iexact HtR
    iapply (reached_at I K (part (dir t) c, some (true, t))); iexact Hrec
  iintro ⟨HcS, HO⟩
  iapply Hk
  unfold sent
  isplitr [HO]
  · isplitl [HcS]; · iexact HcS
    isplitl [HaS]; · iexact HaS
    isplitl [HaR]; · iexact HaR
    iexact HcR
  · iexists W; iexact HO

/-- Wait for transfer `t` to have left: the source comes back unchanged. -/
theorem wait_send_step {Q : α → sProp 𝕄} (t : Xfer) {sh : Shape} {src dst : Memref sig .tc .vmem sh .bf16} {v : sh.Idx → Elt F .bf16}
    (hl : leg I c t = ⟨sh, src, dst, v⟩) {sS : DmaSem sig} (hS : sS = sendS t) {sp' : Space} {s' : Shape} {e' : EltTy}
    {w' : Memref sig .tc sp' s' e'} {w : Memref sig .tc .vmem sh .bf16} {h₁ : w'.view.WordExact} {h₂ : w.view.WordExact} (n : ℕ) :
    iprop(env I K ∗ sent c t ∗ owing c n)
      ⊢ iprop(((own c src v ∗ pend c t ∗ owing c n) -∗ WP c (k ⟨⟩) Q)
        -∗ WP c (.op (.waitDma2 sS w' w h₁ h₂) k) Q) := by
  subst hS
  have hcr : RefSig.tileCredit sh .bf16 = credit t := by
    have h : (leg I c t).sh = sh := by rw [hl]
    unfold credit; rw [← leg_sh I c t, h]
  have hs' : payOf I c 0 (some (false, t)) = (own c src v : sProp 𝕄) := by show sendPay I c t = _; unfold sendPay; rw [hl]
  unfold env owing sent
  iintro ⟨⟨#Hrec, #Hlev⟩, ⟨HcS, HaS, HaR, HcR⟩, ⟨%W, HO⟩⟩ Hk
  iapply (Rounds.wp_wait_rest_token 𝒱₀ ER (Rd I) (c : Thread nD τ) none (κ := K (c, some (false, t)))
      (wpE_waitDma2_eq 𝒱₀ (c : Thread nD τ) none Set.univ) (Set.mem_univ _) () (O := owe c n) (W := W) (R := 0) (m := 0) (T := ∅)
      (by rw [Nat.zero_add]; exact hcr.trans (expect_xfer I c false t).symm)) $$ [HcS HO HaS]
  · isplitr; · iapply (inv_at I K (c, some (false, t))); iexact Hrec
    isplitl [HcS]; · rw [show w.view.dmaCredit = credit t from hcr]; iexact HcS
    isplitl [HO]; · iexact HO
    isplitr; · iapply (mayWait c (some (false, t)) n (by show 0 < 2 + n; omega)); iexact Hlev
    iexact HaS
  iintro ⟨HO, HaS, -, Hpay⟩
  ihave Hp := (Entails.of_eq (show bigSep ((Rd I).duties ((c : Thread nD τ), SemLoc.dma (sendS t)) 0 \ ∅) (fun d => (Rd I).payload ((c : Thread nD τ), SemLoc.dma (sendS t)) 0 d) = _ from (rest_xfer I c false t).trans hs')) $$ Hpay
  imod (Rounds.cell_close ER (Rd I) (Set.mem_univ (K (c, some (false, t)))) (fun h => h) (R := 0 + 1) (duties_later I (sendCell c t))) $$ [HaS] with HzS
  · isplitr; · iapply (inv_at I K (c, some (false, t))); iexact Hrec
    iexact HaS
  iapply Hk
  unfold pend
  isplitl [Hp]; · iexact Hp
  isplitr [HO]
  · isplitl [HzS]; · iexact HzS
    isplitl [HaR]; · iexact HaR
    iexact HcR
  · iexists _; iexact HO

/-- Wait for the partner's transfer `t` to have landed: the landing place comes with the partner's contents. -/
theorem wait_recv_step {Q : α → sProp 𝕄} (t : Xfer) {sh : Shape} {src dst : Memref sig .tc .vmem sh .bf16} {v : sh.Idx → Elt F .bf16}
    (hl : leg I (part (dir t) c) t = ⟨sh, src, dst, v⟩) {sR : DmaSem sig} (hR : sR = recvS t) {sp' : Space} {s' : Shape} {e' : EltTy}
    {w' : Memref sig .tc sp' s' e'} {w : Memref sig .tc .vmem sh .bf16} {h₁ : w'.view.WordExact} {h₂ : w.view.WordExact} (n : ℕ) (hn : rank t < n) :
    iprop(env I K ∗ pend c t ∗ owing c n)
      ⊢ iprop(((own c dst v ∗ done c t ∗ owing c n) -∗ WP c (k ⟨⟩) Q)
        -∗ WP c (.op (.waitDma2 sR w' w h₁ h₂) k) Q) := by
  subst hR
  have hcr : RefSig.tileCredit sh .bf16 = credit t := by
    have h : (leg I (part (dir t) c) t).sh = sh := by rw [hl]
    unfold credit; rw [← leg_sh I (part (dir t) c) t, h]
  have hs' : payOf I c 0 (some (true, t)) = (own c dst v : sProp 𝕄) := by
    show recvPay I (part (dir t) c) t = _; unfold recvPay; rw [hl, part_part]
  unfold env owing pend
  iintro ⟨⟨#Hrec, #Hlev⟩, ⟨HzS, HaR, HcR⟩, ⟨%W, HO⟩⟩ Hk
  iapply (Rounds.wp_wait_rest_token 𝒱₀ ER (Rd I) (c : Thread nD τ) none (κ := K (c, some (true, t)))
      (wpE_waitDma2_eq 𝒱₀ (c : Thread nD τ) none Set.univ) (Set.mem_univ _) () (O := owe c n) (W := W) (R := 0) (m := 0) (T := ∅)
      (by rw [Nat.zero_add]; exact hcr.trans (expect_xfer I c true t).symm)) $$ [HcR HO HaR]
  · isplitr; · iapply (inv_at I K (c, some (true, t))); iexact Hrec
    isplitl [HcR]; · rw [show w.view.dmaCredit = credit t from hcr]; iexact HcR
    isplitl [HO]; · iexact HO
    isplitr; · iapply (mayWait c (some (true, t)) n (by show 2 + rank t < 2 + n; omega)); iexact Hlev
    iexact HaR
  iintro ⟨HO, HaR, -, Hpay⟩
  ihave Hp := (Entails.of_eq (show bigSep ((Rd I).duties ((c : Thread nD τ), SemLoc.dma (recvS t)) 0 \ ∅) (fun d => (Rd I).payload ((c : Thread nD τ), SemLoc.dma (recvS t)) 0 d) = _ from (rest_xfer I c true t).trans hs')) $$ Hpay
  imod (Rounds.cell_close ER (Rd I) (Set.mem_univ (K (c, some (true, t)))) (fun h => h) (R := 0 + 1) (duties_later I (recvCell c t))) $$ [HaR] with HzR
  · isplitr; · iapply (inv_at I K (c, some (true, t))); iexact Hrec
    iexact HaR
  iapply Hk
  unfold done
  isplitl [Hp]; · iexact Hp
  isplitr [HO]
  · isplitl [HzS]; · iexact HzS
    iexact HzR
  · iexists _; iexact HO

/-- Signal the partner in direction `j`, handing it its landing places here. -/
theorem signal_step {Q : α → sProp 𝕄} (j : Fin 3) {n : Dev nD} (hn : n = part j c) {s : Sem sig} (hs : s = barS) {k' : ℕ} (hk : 1 = k')
    (O : CellTallies nD τ sig Unit) {W : Waits sig Unit} :
    iprop(env I K ∗ barPay I (part j c) j ∗ dutyTok ER (barCell (part j c)) 0 j ∗ owes (c : Thread nD τ) (O + tallyAt (barCell (part j c)) () 1) W)
      ⊢ iprop((owes (c : Thread nD τ) O W -∗ WP c (k ⟨⟩) Q)
        -∗ WP c (.op (.semSignal (Dev.tc n : Thread nD τ) s k') k) Q) := by
  subst hn hs hk
  unfold env
  iintro ⟨⟨#Hrec, -⟩, Hpay, Ht, HO⟩ Hk
  iapply (Rounds.wp_signal 𝒱₀ ER (Rd I) (c : Thread nD τ) none (dst := (part j c : Thread nD τ)) (κ := K (part j c, none))
      (d := j) (mem_bar I (part j c) j)
      (amount_cell I (part j c, none) j) () O rfl) $$ [HO Ht Hpay]
  · isplitr; · iapply (inv_at I K (part j c, none)); iexact Hrec
    isplitl [HO]; · iexact HO
    isplitl [Ht]; · iexact Ht
    isplitl [Hpay]
    · rw [show (Rd I).payload (barCell (part j c)) 0 j = (barPay I (part j c) j : sProp 𝕄) from payload_cell I (part j c, none) j]; iexact Hpay
    iapply (reached_at I K (part j c, none)); iexact Hrec
  iexact Hk

/-- The entry wait: all three partners have entered, and the landing places on them are this device's. -/
theorem bar_step {Q : α → sProp 𝕄} {s : Sem sig} (hs : s = barS) {k' : ℕ} (hk : k' = 3) {W : Waits sig Unit} :
    iprop(env I K ∗ cred (tallyAt (barCell c) () 3) ∗ atPos ER (barCell c) 0 ∅ 0 ∗ owes (c : Thread nD τ) (owe c 0) W)
      ⊢ iprop(((barPay I c 0 ∗ barPay I c 1 ∗ barPay I c 2 ∗ semVal (barCell c) 0 ∗ owing c 0) -∗ WP c (k ⟨⟩) Q)
        -∗ WP c (.op (.semWait s k') k) Q) := by
  subst hs hk
  unfold env owing
  iintro ⟨⟨#Hrec, #Hlev⟩, Hc, Ha, HO⟩ Hk
  iapply (Rounds.wp_wait_rest_token 𝒱₀ ER (Rd I) (c : Thread nD τ) none (κ := K (c, none))
      (wpE_semWait_eq 𝒱₀ (c : Thread nD τ) none Set.univ) (Set.mem_univ _) () (O := owe c 0) (W := W) (R := 0) (m := 0) (T := ∅)
      (by rw [Nat.zero_add]; exact (expect_bar I c).symm)) $$ [Hc HO Ha]
  · isplitr; · iapply (inv_at I K (c, none)); iexact Hrec
    isplitl [Hc]; · iexact Hc
    isplitl [HO]; · iexact HO
    isplitr; · iapply (mayWait c none 0 (by decide)); iexact Hlev
    iexact Ha
  iintro ⟨HO, Ha, -, Hpay⟩
  ihave Hp := (Entails.of_eq (show bigSep ((Rd I).duties ((c : Thread nD τ), SemLoc.reg barS) 0 \ ∅) (fun d => (Rd I).payload ((c : Thread nD τ), SemLoc.reg barS) 0 d) = _ from rest_bar I c)) $$ Hpay
  icases Hp with ⟨H0, H1, H2⟩
  imod (Rounds.cell_close ER (Rd I) (Set.mem_univ (K (c, none))) (fun h => h) (R := 0 + 1) (duties_later I (barCell c))) $$ [Ha] with Hz
  · isplitr; · iapply (inv_at I K (c, none)); iexact Hrec
    iexact Ha
  iapply Hk
  isplitl [H0]; · iexact H0
  isplitl [H1]; · iexact H1
  isplitl [H2]; · iexact H2
  isplitl [Hz]; · iexact Hz
  iexists _; iexact HO

end Rules

end Cert.KernelIdeal.Run
-- ==== Proof.Regs.lean ====
/-
# The body's parts: the setting

The kernel body is printed as a sequence of parts, each over the same buffers and semaphores. Here the
buffers get names, and whole-buffer loads and stores their rules.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

abbrev xM : Memref sig .tc .vmem S1x1024x1024 .bf16 := Memref.whole cc0_stg0_0
abbrev wqM : Memref sig .tc .vmem S1024x1024 .bf16 := Memref.whole cc0_stg1_0
abbrev kM : Memref sig .tc .vmem S1x1024x8x128 .bf16 := Memref.whole cc0_stg2_0
abbrev vM : Memref sig .tc .vmem S1x1024x8x128 .bf16 := Memref.whole cc0_stg3_0
abbrev woM : Memref sig .tc .vmem S1024x1024 .bf16 := Memref.whole cc0_stg4_0
abbrev outM : Memref sig .tc .vmem S1x1024x1024 .f32 := Memref.whole cc0_stg5_0
abbrev accA : Memref sig .tc .vmem S1024x1024 .f32 := Memref.whole cc0_scratch0
abbrev accB : Memref sig .tc .vmem S1024x1024 .f32 := Memref.whole cc0_scratch1
abbrev ctx : Memref sig .tc .vmem S1024x1024 .bf16 := Memref.whole cc0_scratch2

/-- A part of the body at these buffers and the six arrays of semaphores. -/
abbrev atArgs {β : Type _} (f : ∀ (arg0 : Memref sig .tc .vmem S1x1024x1024 .bf16) (harg0 : arg0.IsWhole) (arg1 : Memref sig .tc .vmem S1024x1024 .bf16) (harg1 : arg1.IsWhole) (arg2 : Memref sig .tc .vmem S1x1024x8x128 .bf16) (harg2 : arg2.IsWhole) (arg3 : Memref sig .tc .vmem S1x1024x8x128 .bf16) (harg3 : arg3.IsWhole) (arg4 : Memref sig .tc .vmem S1024x1024 .bf16) (harg4 : arg4.IsWhole) (arg5 : Memref sig .tc .vmem S1x1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S256x512 .bf16) (harg15 : arg15.IsWhole) (arg16 : Memref sig .tc .vmem S128x512 .bf16) (harg16 : arg16.IsWhole) (arg17 : Memref sig .tc .vmem S512x512 .bf16) (harg17 : arg17.IsWhole) (arg18 : Memref sig .tc .vmem S256x512 .bf16) (harg18 : arg18.IsWhole) (arg19 : Memref sig .tc .vmem S128x512 .bf16) (harg19 : arg19.IsWhole) (arg20 : Memref sig .tc .vmem S512x512 .bf16) (harg20 : arg20.IsWhole) (arg21 : Memref sig .tc .vmem S256x512 .bf16) (harg21 : arg21.IsWhole) (arg22 : Memref sig .tc .vmem S128x512 .bf16) (harg22 : arg22.IsWhole) (arg23 : Memref sig .tc .vmem S512x512 .bf16) (harg23 : arg23.IsWhole) (arg24 : Memref sig .tc .vmem S256x512 .bf16) (harg24 : arg24.IsWhole) (arg25 : Memref sig .tc .vmem S128x512 .bf16) (harg25 : arg25.IsWhole) (arg26 : DmaSems sig S3x2) (arg27 : DmaSems sig S3x2) (arg28 : DmaSems sig S3x2) (arg29 : DmaSems sig S3x2) (arg30 : DmaSems sig S3x2) (arg31 : DmaSems sig S3x2), β) : β :=
  f xM (Memref.isWhole_whole _) wqM (Memref.isWhole_whole _) kM (Memref.isWhole_whole _) vM (Memref.isWhole_whole _) woM (Memref.isWhole_whole _) outM (Memref.isWhole_whole _) accA (Memref.isWhole_whole _) accB (Memref.isWhole_whole _) ctx (Memref.isWhole_whole _) gath (Memref.isWhole_whole _) stA0 (Memref.isWhole_whole _) stA1 (Memref.isWhole_whole _) stB0 (Memref.isWhole_whole _) stB1 (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 cc0_scratch25

/-! ## Whole buffers -/

section Whole
variable (c : Dev nD) {s : Shape} {e : EltTy} {m : Memref sig .tc .vmem s e} {off : Fin s.rank → ℕ} {h : ∀ a, off a + s.size a ≤ s.size a}
  {X : s.Idx → Elt F e} {α : Type}

theorem emb_all (i : s.Idx) : (Rect.unit off s.size h).emb i = i := by
  funext a
  have h0 : off a = 0 := by have := h a; omega
  exact Fin.ext (by show off a + 1 * (i a).val = (i a).val; omega)

theorem load_all {hl : m.view.LoadsAt (Rect.unit off s.size h).toLoadRect}
    {k : (s.Idx → Elt F e) → Prog (TpuEff nD τ sig (Elt F) Λ₀ .tc) α} {Q : α → sProp 𝕄} :
    (own c m X : sProp 𝕄)
      ⊢ iprop((own c m X -∗ WP c (k X) Q)
        -∗ WP c (.op (.load m (Rect.unit off s.size h).toLoadRect hl) k) Q) := by
  have e : sub (Rect.unit off s.size h) X = X := funext fun i => congrArg X (emb_all i)
  have key := load_own c (m := m) (off := off) (size := s.size) (h := h) (h' := h) (X := X) rfl (hl := hl) (k := k) (Q := Q)
  rwa [e] at key

/-- A load whose value is not used, or is taken as printed. -/
theorem load_any {size : Fin s.rank → ℕ} {h : ∀ a, off a + size a ≤ s.size a} {hl : m.view.LoadsAt (Rect.unit off size h).toLoadRect}
    {k : ((Rect.unit off size h).toLoadRect.shape.Idx → Elt F e) → Prog (TpuEff nD τ sig (Elt F) Λ₀ .tc) α} {Q : α → sProp 𝕄} :
    (own c m X : sProp 𝕄)
      ⊢ iprop((own c m X -∗ WP c (k (sub (Rect.unit off size h) X)) Q)
        -∗ WP c (.op (.load m (Rect.unit off size h).toLoadRect hl) k) Q) := load_own c rfl

theorem store_all {w : s.Idx → Elt F e} {hx : (m.access (Rect.unit off s.size h)).Stores Finset.univ} {hm} (X' : s.Idx → Elt F e) (hX : w = X')
    {k : PUnit → Prog (TpuEff nD τ sig (Elt F) Λ₀ .tc) α} {Q : α → sProp 𝕄} :
    (own c m X : sProp 𝕄)
      ⊢ iprop((own c m X' -∗ WP c (k ⟨⟩) Q)
        -∗ WP c (.op (.store m (Rect.unit off s.size h) w Finset.univ hx hm) k) Q) := by
  subst hX
  refine store_own c (off' := off) (h' := h) rfl w ?_
  funext i
  have key := Rect.overlay_emb (Rect.unit off s.size h) X w i
  rwa [emb_all] at key
end Whole

/-! ## Sequencing -/

/-- A part, then the rest of the body. -/
theorem seq {c : Dev nD} {α β : Type} {P : sProp 𝕄} {p : Prog (TpuEff nD τ sig (Elt F) Λ₀ .tc) α} {Φ : α → sProp 𝕄}
    (h : P ⊢ WP c p Φ) {k : α → Prog (TpuEff nD τ sig (Elt F) Λ₀ .tc) β} {Q : β → sProp 𝕄} :
    P ⊢ iprop((∀ r, Φ r -∗ WP c (k r) Q) -∗ WP c (p >>= k) Q) := by
  unfold WP at h ⊢; rw [wp_bind]
  exact h.trans (wp_wand _ _ _)

theorem curry2 {A B G : sProp 𝕄} (h : iprop(A ∗ B) ⊢ G) : A ⊢ iprop(B -∗ G) := by
  iintro HA HB; iapply h
  isplitl [HA]; · iexact HA
  iexact HB
theorem curry3 {A B C G : sProp 𝕄} (h : iprop(A ∗ B ∗ C) ⊢ G) : A ⊢ iprop(B -∗ C -∗ G) := by
  iintro HA HB HC; iapply h
  isplitl [HA]; · iexact HA
  isplitl [HB]; · iexact HB
  iexact HC
theorem curry4 {A B C D G : sProp 𝕄} (h : iprop(A ∗ B ∗ C ∗ D) ⊢ G) : A ⊢ iprop(B -∗ C -∗ D -∗ G) := by
  iintro HA HB HC HD; iapply h
  isplitl [HA]; · iexact HA
  isplitl [HB]; · iexact HB
  isplitl [HC]; · iexact HC
  iexact HD
theorem curry5 {A B C D E G : sProp 𝕄} (h : iprop(A ∗ B ∗ C ∗ D ∗ E) ⊢ G) : A ⊢ iprop(B -∗ C -∗ D -∗ E -∗ G) := by
  iintro HA HB HC HD HE; iapply h
  isplitl [HA]; · iexact HA
  isplitl [HB]; · iexact HB
  isplitl [HC]; · iexact HC
  isplitl [HD]; · iexact HD
  iexact HE
theorem curry6 {A B C D E F G : sProp 𝕄} (h : iprop(A ∗ B ∗ C ∗ D ∗ E ∗ F) ⊢ G) : A ⊢ iprop(B -∗ C -∗ D -∗ E -∗ F -∗ G) := by
  iintro HA HB HC HD HE HF; iapply h
  isplitl [HA]; · iexact HA
  isplitl [HB]; · iexact HB
  isplitl [HC]; · iexact HC
  isplitl [HD]; · iexact HD
  isplitl [HE]; · iexact HE
  iexact HF

theorem ret {c : Dev nD} {α : Type} (a : α) (Φ : α → sProp 𝕄) : Φ a ⊢ WP c (.ret a : Prog (TpuEff nD τ sig (Elt F) Λ₀ .tc) α) Φ :=
  le_wp_ret _ _ _ _ _

/-- A printed slice at another form of its offset. -/
theorem slice_off {s : Shape} {e : EltTy} (m : Memref sig .tc .vmem s e) {off off' : Fin s.rank → ℕ} {size : Fin s.rank → ℕ}
    {h : ∀ a, off a + size a ≤ s.size a} {h' : ∀ a, off' a + size a ≤ s.size a} (he : off = off')
    {hr : ∀ a, (Rect.unit off size h).stride a = 1} {hr' : ∀ a, (Rect.unit off' size h').stride a = 1} :
    m.slice (Rect.unit off size h) hr = m.slice (Rect.unit off' size h') hr' := by subst he; rfl

end Cert.KernelIdeal.Run
-- ==== Proof.PartsA.lean ====
/-
# The body, parts 1 to 16: entry, the heads, the first reduce-scatter

One entailment per printed part, over what the part touches.
-/
module

public import proofs.«01_k».proof.Proof.Regs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ) (c : Dev nD)

/-- Device `c`'s queries. -/
abbrev qs : FVec F S1024x1024 .bf16 := queries (I c).x (I c).wq
/-- Head `h` written into the heads side by side. -/
abbrev putHead (h : Fin 8) (G : S1024x1024.Idx → F .bf16) : S1024x1024.Idx → F .bf16 := (RC h).overlay G ((I c).head h)

section Incoming
variable (P : Dev nD → FVec F S1024x1024 .f32) (p : Fin 2)
/-- What comes for half `p` in the three rounds, -/
abbrev i512 : FVec F S512x512 .bf16 := s512 P p (part (dir (0, 0, p)) c)
abbrev i256 : FVec F S256x512 .bf16 := s256 P p (part (dir (0, 1, p)) c)
abbrev i128 : FVec F S128x512 .bf16 := s128 P p (part (dir (0, 2, p)) c)
/-- and what the accumulator holds when the rows for half 0 have been added and those for half 1 not yet. -/
abbrev Y1 : FVec F S1024x1024 .f32 := u512 0 c (P c) (i512 c P 0)
abbrev Y2 : FVec F S1024x1024 .f32 := u256 0 c (X1 P c) (i256 c P 0)
abbrev Y3 : FVec F S1024x1024 .f32 := u128 0 c (X2 P c) (i128 c P 0)
end Incoming

theorem part1 (W : Waits sig Unit) :
    iprop(env I K ∗ (barPay I (part 0 c) 0 ∗ barPay I (part 1 c) 1 ∗ barPay I (part 2 c) 2)
      ∗ (dutyTok ER (barCell (part 0 c)) 0 0 ∗ dutyTok ER (barCell (part 1 c)) 0 1 ∗ dutyTok ER (barCell (part 2 c)) 0 2)
      ∗ cred (tallyAt (barCell c) () 3) ∗ atPos ER (barCell c) 0 ∅ 0 ∗ owes (c : Thread nD τ) (owe₀ c) W
      ∗ own c xM (I c).x ∗ own c wqM (I c).wq)
    ⊢ WP c (atArgs (k0_part1 (F := F))) (fun r => iprop(⌜r.1 = c ∧ r.2.2.2.1 = k0_pay3 (I c).x ∧ r.2.2.2.2.1 = k0_pay4 (I c).wq
        ∧ r.2.2.2.2.2 = constant S1024x1024 .f32 0x00000000#32⌝
      ∗ (barPay I c 0 ∗ barPay I c 1 ∗ barPay I c 2) ∗ semVal (barCell c) 0 ∗ owing c 0 ∗ own c xM (I c).x ∗ own c wqM (I c).wq)) := by
  simp only [k0_part1_eq_skeleton]; unfold k0_part1_skel
  simp only [semSignalWord, semWaitWord, Prog.lift, Prog.bind_op, Prog.bind_ret, Prog.pure_eq_ret]
  unfold WP; rw [wp_deviceId]
  iintro ⟨#He, ⟨H0, H1, H2⟩, ⟨Ht0, Ht1, Ht2⟩, Hc, Ha, HO, Hx, Hw⟩
  unfold owe₀
  iapply (curry4 (signal_step I K c 0 (dev1_eq c) rfl (by decide) _)) $$ He H0 Ht0 HO; iintro HO
  iapply (curry4 (signal_step I K c 1 (dev2_eq c) rfl (by decide) _)) $$ He H1 Ht1 HO; iintro HO
  iapply (curry4 (signal_step I K c 2 (dev3_eq c) rfl (by decide) _)) $$ He H2 Ht2 HO; iintro HO
  iapply (curry4 (bar_step I K c rfl (by decide))) $$ He Hc Ha HO; iintro ⟨H0, H1, H2, Hz, HO⟩
  iapply (load_all c) $$ Hx; iintro Hx
  iapply (load_all c) $$ Hw; iintro Hw
  iapply ret
  isplitr; · ipureintro; exact ⟨rfl, rfl, rfl, rfl⟩
  iframe

theorem part2 (G) :
    iprop(own c kM (I c).k ∗ own c vM (I c).v ∗ own c ctx G)
    ⊢ WP c (atArgs (k0_part2 (F := F)) (k0_pay3 (I c).x) (k0_pay4 (I c).wq) (constant S1024x1024 .f32 0x00000000#32))
      (fun r => iprop(⌜r.1 = qs I c ∧ r.2.1 = k0_pay6
        ∧ r.2.2 = k0_pay8 (k0_pay3 (I c).x) (k0_pay4 (I c).wq) (constant S1024x1024 .f32 0x00000000#32)⌝
      ∗ own c kM (I c).k ∗ own c vM (I c).v ∗ own c ctx (putHead I c 0 G))) := by
  simp only [k0_part2_eq_skeleton]; unfold k0_part2_skel
  simp only [Prog.lift, Prog.bind_op, Prog.bind_ret, Prog.pure_eq_ret]
  iintro ⟨Hk, Hv, Hc⟩
  iapply (load_own c (h' := inbHead 0) rfl) $$ Hk; iintro Hk
  iapply (load_own c (h' := inbHead 0) rfl) $$ Hv; iintro Hv
  iapply (load_any c) $$ Hc; iintro Hc
  iapply (store_own c (h' := inbCols 0) rfl (putHead I c 0 G) rfl) $$ Hc; iintro Hc
  iapply ret
  isplitr; · ipureintro; exact ⟨rfl, rfl, rfl⟩
  iframe

theorem part3 (G) :
    iprop(own c kM (I c).k ∗ own c vM (I c).v ∗ own c ctx G)
    ⊢ WP c (atArgs (k0_part3 (F := F)) (qs I c) k0_pay6
        (k0_pay8 (k0_pay3 (I c).x) (k0_pay4 (I c).wq) (constant S1024x1024 .f32 0x00000000#32)))
      (fun r => iprop(⌜r.1 = k0_pay10 (sub (RH 2) (I c).v) ∧ r.2.1 = k0_pay11 (qs I c) (sub (RH 2) (I c).k) ∧ r.2.2 = Scalar.ofBits .f32 0xCE6E6B28#32⌝
      ∗ own c kM (I c).k ∗ own c vM (I c).v ∗ own c ctx (putHead I c 1 G))) := by
  simp only [k0_part3_eq_skeleton]; unfold k0_part3_skel
  simp only [Prog.lift, Prog.bind_op, Prog.bind_ret, Prog.pure_eq_ret]
  iintro ⟨Hk, Hv, Hc⟩
  iapply (load_own c (h' := inbHead 1) rfl) $$ Hk; iintro Hk
  iapply (load_own c (h' := inbHead 1) rfl) $$ Hv; iintro Hv
  iapply (load_any c) $$ Hc; iintro Hc
  iapply (store_own c (h' := inbCols 1) rfl (putHead I c 1 G) rfl) $$ Hc; iintro Hc
  iapply (load_own c (h' := inbHead 2) rfl) $$ Hk; iintro Hk
  iapply (load_own c (h' := inbHead 2) rfl) $$ Hv; iintro Hv
  iapply ret
  isplitr; · ipureintro; exact ⟨rfl, rfl, rfl⟩
  iframe

theorem part4 (G) :
    iprop(own c kM (I c).k ∗ own c vM (I c).v ∗ own c ctx G)
    ⊢ WP c (atArgs (k0_part4 (F := F)) (qs I c) k0_pay6 (k0_pay10 (sub (RH 2) (I c).v)) (k0_pay11 (qs I c) (sub (RH 2) (I c).k))
        (Scalar.ofBits .f32 0xCE6E6B28#32))
      (fun r => iprop(⌜r = k0_pay13 (qs I c) k0_pay6 (sub (RH 3) (I c).k) (sub (RH 3) (I c).v)⌝
      ∗ own c kM (I c).k ∗ own c vM (I c).v ∗ own c ctx (putHead I c 2 G))) := by
  simp only [k0_part4_eq_skeleton]; unfold k0_part4_skel
  simp only [Prog.lift, Prog.bind_op, Prog.bind_ret, Prog.pure_eq_ret]
  iintro ⟨Hk, Hv, Hc⟩
  iapply (load_any c) $$ Hc; iintro Hc
  iapply (store_own c (h' := inbCols 2) rfl (putHead I c 2 G) rfl) $$ Hc; iintro Hc
  iapply (load_own c (h' := inbHead 3) rfl) $$ Hk; iintro Hk
  iapply (load_own c (h' := inbHead 3) rfl) $$ Hv; iintro Hv
  iapply ret
  isplitr; · ipureintro; rfl
  iframe

theorem part5 (v2 : BitVec 32) (G) (hG : sub (RB 0) (putHead I c 3 G) = (I c).ctx 0) :
    iprop(own c woM (I c).wo ∗ own c ctx G ∗ any c accA ∗ any c stA0)
    ⊢ WP c (atArgs (k0_part5 (F := F)) c v2 (k0_pay13 (qs I c) k0_pay6 (sub (RH 3) (I c).k) (sub (RH 3) (I c).v)))
      (fun r => iprop(⌜r.1 = k0_pay15 (I c).wo⌝
      ∗ own c woM (I c).wo ∗ own c ctx (putHead I c 3 G) ∗ own c accA (partA I c)
      ∗ own c (stA0.slice T512 (fun _ => rfl)) (s512 (partA I) 0 c) ∗ rest c stA0 T512 (fun _ => rfl))) := by
  simp only [k0_part5_eq_skeleton]; unfold k0_part5_skel
  simp only [Prog.lift, Prog.bind_op, Prog.bind_ret, Prog.pure_eq_ret]
  unfold any
  iintro ⟨Hw, Hc, ⟨%A, HA⟩, ⟨%S, HS⟩⟩
  iapply (load_any c) $$ Hc; iintro Hc
  iapply (store_own c (h' := inbCols 3) rfl (putHead I c 3 G) rfl) $$ Hc; iintro Hc
  iapply (load_all c) $$ Hw; iintro Hw
  iapply (load_own c (h' := inbHalf 0) rfl) $$ Hc; iintro Hc
  iapply (load_any c) $$ HA; iintro HA
  iapply (store_all c (partA I c) (congrArg (k0_pay16 (I c).wo) hG)) $$ HA; iintro HA
  iapply (load_own c (h' := inb512 0 _) (off1_eq c)) $$ HA; iintro HA
  iapply (load_any c) $$ HS; iintro HS
  iapply (store_lend c (h' := inb_S512x512_S512x512_0_0) rfl (s512 (partA I) 0 c) (show k0_pay17 _ = s512 (partA I) 0 c from rfl) (fun _ => rfl)) $$ HS; iintro ⟨HS, HR⟩
  iapply ret
  isplitr; · ipureintro; rfl
  iframe

theorem part6 (v2 v148 v149 v151 : BitVec 32) :
    iprop(env I K ∗ own c (stA0.slice T512 (fun _ => rfl)) (s512 (partA I) 0 c) ∗ (land I c (0, 0, 0) ∗ ready c (0, 0, 0))
      ∗ (land I c (0, 0, 1) ∗ ready c (0, 0, 1)) ∗ owing c 0 ∗ own c accA (partA I c) ∗ any c stA1 ∗ own c kM (I c).k ∗ own c vM (I c).v)
    ⊢ WP c (atArgs (k0_part6 (F := F)) c v2 (qs I c) v148 v149 v151)
      (fun r => iprop(⌜r.2.2.2.1 = k0_pay19 (sub (RH 4) (I c).v) ∧ r.2.2.2.2 = k0_pay20 (qs I c) (sub (RH 4) (I c).k)⌝
      ∗ sent c (0, 0, 0) ∗ sent c (0, 0, 1) ∗ owing c 2 ∗ own c accA (partA I c) ∗ rest c stA1 T512 (fun _ => rfl)
      ∗ own c kM (I c).k ∗ own c vM (I c).v)) := by
  simp only [k0_part6_eq_skeleton]; unfold k0_part6_skel
  simp only [Prog.lift, Prog.bind_op, Prog.bind_ret, Prog.pure_eq_ret]
  unfold any
  iintro ⟨#He, HS0, ⟨Hl0, Hr0⟩, ⟨Hl1, Hr1⟩, HO, HA, ⟨%S, HS⟩, Hk, Hv⟩
  iapply (curry5 (send_step I K c (0, 0, 0) rfl rfl rfl (dev4_eq c) rfl rfl 0 rfl)) $$ He HS0 Hl0 HO Hr0; iintro ⟨Ht0, HO⟩
  iapply (load_own c (h' := inb512 1 _) (off2_eq c)) $$ HA; iintro HA
  iapply (load_any c) $$ HS; iintro HS
  iapply (store_lend c (h' := inb_S512x512_S512x512_0_0) rfl (s512 (partA I) 1 c) (show k0_pay18 _ = s512 (partA I) 1 c from rfl) (fun _ => rfl)) $$ HS; iintro ⟨HS, HR⟩
  iapply (curry5 (send_step I K c (0, 0, 1) rfl rfl rfl (dev5_eq c) rfl rfl 1 rfl)) $$ He HS Hl1 HO Hr1; iintro ⟨Ht1, HO⟩
  iapply (load_own c (h' := inbHead 4) rfl) $$ Hk; iintro Hk
  iapply (load_own c (h' := inbHead 4) rfl) $$ Hv; iintro Hv
  iapply ret
  isplitr; · ipureintro; exact ⟨rfl, rfl⟩
  iframe

theorem part7 (v152 : BitVec 32) (G) :
    iprop(env I K ∗ own c ctx G ∗ sent c (0, 0, 0) ∗ owing c 2 ∗ rest c stA0 T512 (fun _ => rfl))
    ⊢ WP c (atArgs (k0_part7 (F := F)) k0_pay6 v152 (k0_pay19 (sub (RH 4) (I c).v)) (k0_pay20 (qs I c) (sub (RH 4) (I c).k)))
      (fun r => iprop(own c ctx (putHead I c 4 G) ∗ any c stA0 ∗ done c (0, 0, 0) ∗ owing c 2
      ∗ own c (Memref.whole cc0_scratch8) (s512 (partA I) 0 (part (dir (0, 0, 0)) c)))) := by
  simp only [k0_part7_eq_skeleton]; unfold k0_part7_skel
  simp only [Prog.lift, Prog.bind_op, Prog.bind_ret, Prog.pure_eq_ret]
  iintro ⟨#He, Hc, Ht, HO, HR⟩
  iapply (load_any c) $$ Hc; iintro Hc
  iapply (store_own c (h' := inbCols 4) rfl (putHead I c 4 G) rfl) $$ Hc; iintro Hc
  iapply (curry3 (wait_send_step I K c (0, 0, 0) rfl rfl 2)) $$ He Ht HO; iintro ⟨HS, Ht, HO⟩
  iapply (curry3 (wait_recv_step I K c (0, 0, 0) rfl rfl 2 (by decide))) $$ He Ht HO; iintro ⟨Hv, Ht, HO⟩
  iapply ret
  ihave HS := (curry2 (unlend c T512 (fun _ => rfl) _)) $$ HS HR
  iframe

theorem part8 (v2 v170 v173 v191 : BitVec 32) :
    iprop(env I K ∗ sent c (0, 0, 1) ∗ owing c 2 ∗ rest c stA1 T512 (fun _ => rfl) ∗ own c (Memref.whole cc0_scratch8) (i512 c (partA I) 0) ∗ own c accA (partA I c))
    ⊢ WP c (atArgs (k0_part8 (F := F)) c v2 v170 v173 v191)
      (fun r => iprop(⌜r.2.2 = k0_pay24 (sub (R256 0 (part (dir (0, 1, 0)) c)) (X1 (partA I) c))⌝ ∗ any c stA1 ∗ done c (0, 0, 1) ∗ owing c 2 ∗ any c (Memref.whole cc0_scratch8) ∗ any c (Memref.whole cc0_scratch11) ∗ own c accA (X1 (partA I) c))) := by
  simp only [k0_part8_eq_skeleton]; unfold k0_part8_skel
  simp only [Prog.lift, Prog.bind_op, Prog.bind_ret, Prog.pure_eq_ret]
  iintro ⟨#He, Ht, HO, HR, Hv0, HA⟩
  iapply (curry3 (wait_send_step I K c (0, 0, 1) rfl rfl 2)) $$ He Ht HO; iintro ⟨HS, Ht, HO⟩
  ihave HS := (curry2 (unlend c T512 (fun _ => rfl) _)) $$ HS HR
  iapply (curry3 (wait_recv_step I K c (0, 0, 1) rfl rfl 2 (by decide))) $$ He Ht HO; iintro ⟨Hv1, Ht, HO⟩
  iapply (load_own c (h' := inb512 0 c) (off3_eq c)) $$ HA; iintro HA
  iapply (load_all c) $$ Hv0; iintro Hv0
  iapply (load_any c) $$ HA; iintro HA
  iapply (store_own c (h' := inb512 0 c) (off3_eq c) (Y1 c (partA I)) rfl) $$ HA; iintro HA
  ihave Hv0 := (any_intro c) $$ Hv0
  iapply (load_own c (h' := inb512 1 c) (off4_eq c)) $$ HA; iintro HA
  iapply (load_all c) $$ Hv1; iintro Hv1
  iapply (load_any c) $$ HA; iintro HA
  iapply (store_own c (h' := inb512 1 c) (off4_eq c) (X1 (partA I) c) rfl) $$ HA; iintro HA
  ihave Hv1 := (any_intro c) $$ Hv1
  iapply (load_own c (h' := inb256 0 _) (off5_eq c)) $$ HA; iintro HA
  iapply ret
  isplitr; · ipureintro; exact rfl
  iframe

theorem part9 (v2 v170 v191 v252 v253 : BitVec 32) :
    iprop(env I K ∗ any c stA0 ∗ (land I c (0, 1, 0) ∗ ready c (0, 1, 0)) ∗ owing c 2 ∗ own c accA (X1 (partA I) c) ∗ any c stA1)
    ⊢ WP c (atArgs (k0_part9 (F := F)) c v2 v170 v191 v252 v253 (k0_pay24 (sub (R256 0 (part (dir (0, 1, 0)) c)) (X1 (partA I) c))))
      (fun r => iprop(rest c stA0 T256 (fun _ => rfl) ∗ sent c (0, 1, 0) ∗ owing c 3 ∗ own c accA (X1 (partA I) c) ∗ own c (stA1.slice T256 (fun _ => rfl)) (s256 (partA I) 1 c) ∗ rest c stA1 T256 (fun _ => rfl))) := by
  simp only [k0_part9_eq_skeleton]; unfold k0_part9_skel
  simp only [Prog.lift, Prog.bind_op, Prog.bind_ret, Prog.pure_eq_ret]
  iintro ⟨#He, HS0, ⟨Hl0, Hr0⟩, HO, HA, HS1⟩
  ihave HS0 := (any_open c) $$ HS0; icases HS0 with ⟨%S0, HS0⟩
  ihave HS1 := (any_open c) $$ HS1; icases HS1 with ⟨%S1, HS1⟩
  iapply (load_any c) $$ HS0; iintro HS0
  iapply (store_lend c (h' := inb_S512x512_S256x512_0_0) rfl (s256 (partA I) 0 c) (show k0_pay25 _ = s256 (partA I) 0 c from rfl) (fun _ => rfl)) $$ HS0; iintro ⟨HS0, HR0⟩
  iapply (curry5 (send_step I K c (0, 1, 0) rfl rfl rfl (dev6_eq c) rfl rfl 2 rfl)) $$ He HS0 Hl0 HO Hr0; iintro ⟨Ht0, HO⟩
  iapply (load_own c (h' := inb256 1 _) (off6_eq c)) $$ HA; iintro HA
  iapply (load_any c) $$ HS1; iintro HS1
  iapply (store_lend c (h' := inb_S512x512_S256x512_0_0) rfl (s256 (partA I) 1 c) (show k0_pay26 _ = s256 (partA I) 1 c from rfl) (fun _ => rfl)) $$ HS1; iintro ⟨HS1, HR1⟩
  iapply ret
  iframe

theorem part10 (v191 v273 : BitVec 32) (G) :
    iprop(env I K ∗ own c (stA1.slice T256 (fun _ => rfl)) (s256 (partA I) 1 c) ∗ (land I c (0, 1, 1) ∗ ready c (0, 1, 1)) ∗ owing c 3 ∗ own c kM (I c).k ∗ own c vM (I c).v ∗ own c ctx G ∗ sent c (0, 1, 0) ∗ rest c stA0 T256 (fun _ => rfl))
    ⊢ WP c (atArgs (k0_part10 (F := F)) c (qs I c) k0_pay6 v191 v273)
      (fun r => iprop(sent c (0, 1, 1) ∗ owing c 4 ∗ own c kM (I c).k ∗ own c vM (I c).v ∗ own c ctx (putHead I c 5 G) ∗ pend c (0, 1, 0) ∗ any c stA0)) := by
  simp only [k0_part10_eq_skeleton]; unfold k0_part10_skel
  simp only [Prog.lift, Prog.bind_op, Prog.bind_ret, Prog.pure_eq_ret]
  iintro ⟨#He, HS1, ⟨Hl1, Hr1⟩, HO, Hk, Hv, Hc, Ht0, HR0⟩
  iapply (curry5 (send_step I K c (0, 1, 1) rfl rfl rfl (dev7_eq c) rfl rfl 3 rfl)) $$ He HS1 Hl1 HO Hr1; iintro ⟨Ht1, HO⟩
  iapply (load_own c (h' := inbHead 5) rfl) $$ Hk; iintro Hk
  iapply (load_own c (h' := inbHead 5) rfl) $$ Hv; iintro Hv
  iapply (load_any c) $$ Hc; iintro Hc
  iapply (store_own c (h' := inbCols 5) rfl (putHead I c 5 G) rfl) $$ Hc; iintro Hc
  iapply (curry3 (wait_send_step I K c (0, 1, 0) rfl rfl 4)) $$ He Ht0 HO; iintro ⟨HS, Ht0, HO⟩
  ihave HS := (curry2 (unlend c T256 (fun _ => rfl) _)) $$ HS HR0
  iapply ret
  iframe

theorem part11 (v253 v271 v274 v292 : BitVec 32) :
    iprop(env I K ∗ pend c (0, 1, 0) ∗ sent c (0, 1, 1) ∗ owing c 4 ∗ rest c stA1 T256 (fun _ => rfl) ∗ own c accA (X1 (partA I) c))
    ⊢ WP c (atArgs (k0_part11 (F := F)) c v253 v271 v274 v292)
      (fun r => iprop(⌜r = k0_pay29 (sub (R256 1 c) (Y2 c (partA I))) (i256 c (partA I) 1)⌝ ∗ done c (0, 1, 0) ∗ done c (0, 1, 1) ∗ owing c 4 ∗ any c stA1 ∗ any c (Memref.whole cc0_scratch9) ∗ any c (Memref.whole cc0_scratch12) ∗ own c accA (Y2 c (partA I)))) := by
  simp only [k0_part11_eq_skeleton]; unfold k0_part11_skel
  simp only [Prog.lift, Prog.bind_op, Prog.bind_ret, Prog.pure_eq_ret]
  iintro ⟨#He, Ht0, Ht1, HO, HR, HA⟩
  iapply (curry3 (wait_recv_step I K c (0, 1, 0) rfl rfl 4 (by decide))) $$ He Ht0 HO; iintro ⟨Hv0, Ht0, HO⟩
  iapply (curry3 (wait_send_step I K c (0, 1, 1) rfl rfl 4)) $$ He Ht1 HO; iintro ⟨HS, Ht1, HO⟩
  ihave HS := (curry2 (unlend c T256 (fun _ => rfl) _)) $$ HS HR
  iapply (curry3 (wait_recv_step I K c (0, 1, 1) rfl rfl 4 (by decide))) $$ He Ht1 HO; iintro ⟨Hv1, Ht1, HO⟩
  iapply (load_own c (h' := inb256 0 c) (off7_eq c)) $$ HA; iintro HA
  iapply (load_all c) $$ Hv0; iintro Hv0
  iapply (load_any c) $$ HA; iintro HA
  iapply (store_own c (h' := inb256 0 c) (off7_eq c) (Y2 c (partA I)) rfl) $$ HA; iintro HA
  ihave Hv0 := (any_intro c) $$ Hv0
  iapply (load_own c (h' := inb256 1 c) (off8_eq c)) $$ HA; iintro HA
  iapply (load_all c) $$ Hv1; iintro Hv1
  ihave Hv1 := (any_intro c) $$ Hv1
  iapply ret
  isplitr; · ipureintro; exact rfl
  iframe

theorem part12 (v2 v271 v292 : BitVec 32) :
    iprop(env I K ∗ own c accA (Y2 c (partA I)) ∗ any c stA0 ∗ (land I c (0, 2, 0) ∗ ready c (0, 2, 0)) ∗ owing c 4)
    ⊢ WP c (atArgs (k0_part12 (F := F)) c v2 v271 v292 (k0_pay29 (sub (R256 1 c) (Y2 c (partA I))) (i256 c (partA I) 1)))
      (fun r => iprop(⌜r.2.2.2.2 = k0_pay32 (sub (R128 1 (part (dir (0, 2, 1)) c)) (X2 (partA I) c))⌝ ∗ own c accA (X2 (partA I) c) ∗ rest c stA0 T128 (fun _ => rfl) ∗ sent c (0, 2, 0) ∗ owing c 5)) := by
  simp only [k0_part12_eq_skeleton]; unfold k0_part12_skel
  simp only [Prog.lift, Prog.bind_op, Prog.bind_ret, Prog.pure_eq_ret]
  iintro ⟨#He, HA, HS0, ⟨Hl0, Hr0⟩, HO⟩
  ihave HS0 := (any_open c) $$ HS0; icases HS0 with ⟨%S0, HS0⟩
  iapply (load_any c) $$ HA; iintro HA
  iapply (store_own c (h' := inb256 1 c) (off8_eq c) (X2 (partA I) c) rfl) $$ HA; iintro HA
  iapply (load_own c (h' := inb128 0 _) (off9_eq c)) $$ HA; iintro HA
  iapply (load_any c) $$ HS0; iintro HS0
  iapply (store_lend c (h' := inb_S512x512_S128x512_0_0) rfl (s128 (partA I) 0 c) (show k0_pay31 _ = s128 (partA I) 0 c from rfl) (fun _ => rfl)) $$ HS0; iintro ⟨HS0, HR0⟩
  iapply (curry5 (send_step I K c (0, 2, 0) rfl rfl rfl (dev8_eq c) rfl rfl 4 rfl)) $$ He HS0 Hl0 HO Hr0; iintro ⟨Ht0, HO⟩
  iapply (load_own c (h' := inb128 1 _) (off10_eq c)) $$ HA; iintro HA
  iapply ret
  isplitr; · ipureintro; exact rfl
  iframe

theorem part13 (v292 v374 v375 : BitVec 32) :
    iprop(env I K ∗ any c stA1 ∗ (land I c (0, 2, 1) ∗ ready c (0, 2, 1)) ∗ owing c 5 ∗ own c kM (I c).k ∗ own c vM (I c).v)
    ⊢ WP c (atArgs (k0_part13 (F := F)) c (qs I c) k0_pay6 v292 v374 v375 (k0_pay32 (sub (R128 1 (part (dir (0, 2, 1)) c)) (X2 (partA I) c))))
      (fun r => iprop(⌜r.2 = k0_pay34 (qs I c) k0_pay6 (sub (RH 6) (I c).k) (sub (RH 6) (I c).v)⌝ ∗ rest c stA1 T128 (fun _ => rfl) ∗ sent c (0, 2, 1) ∗ owing c 6 ∗ own c kM (I c).k ∗ own c vM (I c).v)) := by
  simp only [k0_part13_eq_skeleton]; unfold k0_part13_skel
  simp only [Prog.lift, Prog.bind_op, Prog.bind_ret, Prog.pure_eq_ret]
  iintro ⟨#He, HS1, ⟨Hl1, Hr1⟩, HO, Hk, Hv⟩
  ihave HS1 := (any_open c) $$ HS1; icases HS1 with ⟨%S1, HS1⟩
  iapply (load_any c) $$ HS1; iintro HS1
  iapply (store_lend c (h' := inb_S512x512_S128x512_0_0) rfl (s128 (partA I) 1 c) (show k0_pay33 _ = s128 (partA I) 1 c from rfl) (fun _ => rfl)) $$ HS1; iintro ⟨HS1, HR1⟩
  iapply (curry5 (send_step I K c (0, 2, 1) rfl rfl rfl (dev9_eq c) rfl rfl 5 rfl)) $$ He HS1 Hl1 HO Hr1; iintro ⟨Ht1, HO⟩
  iapply (load_own c (h' := inbHead 6) rfl) $$ Hk; iintro Hk
  iapply (load_own c (h' := inbHead 6) rfl) $$ Hv; iintro Hv
  iapply ret
  isplitr; · ipureintro; exact rfl
  iframe

theorem part14 (G) :
    iprop(env I K ∗ own c ctx G ∗ own c kM (I c).k ∗ own c vM (I c).v ∗ sent c (0, 2, 0) ∗ owing c 6 ∗ rest c stA0 T128 (fun _ => rfl))
    ⊢ WP c (atArgs (k0_part14 (F := F)) (qs I c) k0_pay6 (k0_pay34 (qs I c) k0_pay6 (sub (RH 6) (I c).k) (sub (RH 6) (I c).v)))
      (fun r => iprop(own c ctx (putHead I c 7 (putHead I c 6 G)) ∗ own c kM (I c).k ∗ own c vM (I c).v ∗ pend c (0, 2, 0) ∗ any c stA0 ∗ owing c 6)) := by
  simp only [k0_part14_eq_skeleton]; unfold k0_part14_skel
  simp only [Prog.lift, Prog.bind_op, Prog.bind_ret, Prog.pure_eq_ret]
  iintro ⟨#He, Hc, Hk, Hv, Ht, HO, HR⟩
  iapply (load_any c) $$ Hc; iintro Hc
  iapply (store_own c (h' := inbCols 6) rfl (putHead I c 6 G) rfl) $$ Hc; iintro Hc
  iapply (load_own c (h' := inbHead 7) rfl) $$ Hk; iintro Hk
  iapply (load_own c (h' := inbHead 7) rfl) $$ Hv; iintro Hv
  iapply (load_any c) $$ Hc; iintro Hc
  iapply (store_own c (h' := inbCols 7) rfl (putHead I c 7 (putHead I c 6 G)) rfl) $$ Hc; iintro Hc
  iapply (curry3 (wait_send_step I K c (0, 2, 0) rfl rfl 6)) $$ He Ht HO; iintro ⟨HS, Ht, HO⟩
  ihave HS := (curry2 (unlend c T128 (fun _ => rfl) _)) $$ HS HR
  iapply ret
  iframe

theorem part15 (v354 v372 v375 v393 : BitVec 32) :
    iprop(env I K ∗ pend c (0, 2, 0) ∗ sent c (0, 2, 1) ∗ owing c 6 ∗ rest c stA1 T128 (fun _ => rfl) ∗ own c accA (X2 (partA I) c))
    ⊢ WP c (atArgs (k0_part15 (F := F)) c v354 v372 v375 v393)
      (fun r => iprop(⌜r.1 = sub (R128 1 c) (Y3 c (partA I)) ∧ r.2 = k0_pay38 (i128 c (partA I) 1)⌝ ∗ done c (0, 2, 0) ∗ done c (0, 2, 1) ∗ owing c 6 ∗ any c stA1 ∗ any c (Memref.whole cc0_scratch10) ∗ any c (Memref.whole cc0_scratch13) ∗ own c accA (Y3 c (partA I)))) := by
  simp only [k0_part15_eq_skeleton]; unfold k0_part15_skel
  simp only [Prog.lift, Prog.bind_op, Prog.bind_ret, Prog.pure_eq_ret]
  iintro ⟨#He, Ht0, Ht1, HO, HR, HA⟩
  iapply (curry3 (wait_recv_step I K c (0, 2, 0) rfl rfl 6 (by decide))) $$ He Ht0 HO; iintro ⟨Hv0, Ht0, HO⟩
  iapply (curry3 (wait_send_step I K c (0, 2, 1) rfl rfl 6)) $$ He Ht1 HO; iintro ⟨HS, Ht1, HO⟩
  ihave HS := (curry2 (unlend c T128 (fun _ => rfl) _)) $$ HS HR
  iapply (curry3 (wait_recv_step I K c (0, 2, 1) rfl rfl 6 (by decide))) $$ He Ht1 HO; iintro ⟨Hv1, Ht1, HO⟩
  iapply (load_own c (h' := inb128 0 c) (off11_eq c)) $$ HA; iintro HA
  iapply (load_all c) $$ Hv0; iintro Hv0
  iapply (load_any c) $$ HA; iintro HA
  iapply (store_own c (h' := inb128 0 c) (off11_eq c) (Y3 c (partA I)) rfl) $$ HA; iintro HA
  ihave Hv0 := (any_intro c) $$ Hv0
  iapply (load_own c (h' := inb128 1 c) (off12_eq c)) $$ HA; iintro HA
  iapply (load_all c) $$ Hv1; iintro Hv1
  ihave Hv1 := (any_intro c) $$ Hv1
  iapply ret
  isplitr; · ipureintro; dsimp only; refine ⟨?_, ?_⟩ <;> rfl
  iframe

theorem part16 (v2 v393 : BitVec 32) (G) (hG : sub (RB 1) G = (I c).ctx 1) :
    iprop(env I K ∗ own c accA (Y3 c (partA I)) ∗ own c ctx G ∗ any c accB ∗ any c stB0 ∗ (land I c (1, 0, 0) ∗ ready c (1, 0, 0)) ∗ owing c 6)
    ⊢ WP c (atArgs (k0_part16 (F := F)) c v2 (k0_pay15 (I c).wo) v393 (sub (R128 1 c) (Y3 c (partA I))) (k0_pay38 (i128 c (partA I) 1)))
      (fun r => iprop(own c accA (X3 (partA I) c) ∗ own c ctx G ∗ own c accB (partB I c) ∗ rest c stB0 T512 (fun _ => rfl) ∗ sent c (1, 0, 0) ∗ owing c 7)) := by
  simp only [k0_part16_eq_skeleton]; unfold k0_part16_skel
  simp only [Prog.lift, Prog.bind_op, Prog.bind_ret, Prog.pure_eq_ret]
  iintro ⟨#He, HA, Hc, HB, HS0, ⟨Hl0, Hr0⟩, HO⟩
  ihave HB := (any_open c) $$ HB; icases HB with ⟨%B, HB⟩
  ihave HS0 := (any_open c) $$ HS0; icases HS0 with ⟨%S0, HS0⟩
  iapply (load_any c) $$ HA; iintro HA
  iapply (store_own c (h' := inb128 1 c) (off12_eq c) (X3 (partA I) c) rfl) $$ HA; iintro HA
  iapply (load_own c (h' := inbHalf 1) rfl) $$ Hc; iintro Hc
  iapply (load_any c) $$ HB; iintro HB
  iapply (store_all c (partB I c) (congrArg (k0_pay40 (k0_pay15 (I c).wo)) hG)) $$ HB; iintro HB
  iapply (load_own c (h' := inb512 0 _) (off1_eq c)) $$ HB; iintro HB
  iapply (load_any c) $$ HS0; iintro HS0
  iapply (store_lend c (h' := inb_S512x512_S512x512_0_0) rfl (s512 (partB I) 0 c) (show k0_pay41 _ = s512 (partB I) 0 c from rfl) (fun _ => rfl)) $$ HS0; iintro ⟨HS0, HR0⟩
  iapply (curry5 (send_step I K c (1, 0, 0) rfl rfl rfl (dev10_eq c) rfl rfl 6 rfl)) $$ He HS0 Hl0 HO Hr0; iintro ⟨Ht0, HO⟩
  iapply ret
  iframe

end Cert.KernelIdeal.Run
-- ==== Proof.PartsB.lean ====
/-
# The body, parts 17 to 24: the second reduce-scatter, and the rows kept
-/
module

public import proofs.«01_k».proof.Proof.PartsA

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ) (c : Dev nD)

/-- The rows kept, of half `p`, of both parts: summed, as the result has them. -/
abbrev mine (p : Fin 2) : FVec F S1x128x512 .f32 := k0_pay56 (sub (R128 p c) (X3 (partA I) c)) (sub (R128 p c) (X3 (partB I) c))
/-- The result's block with the rows kept written. -/
abbrev O2 (G : S1x1024x1024.Idx → F .f32) : S1x1024x1024.Idx → F .f32 :=
  (Q128 1 c).overlay ((Q128 0 c).overlay G (mine I c 0)) (mine I c 1)

theorem part17 (v2 v484 v485 v487 v488 : BitVec 32) :
    iprop(env I K ∗ own c accB (partB I c) ∗ any c stB1 ∗ (land I c (1, 0, 1) ∗ ready c (1, 0, 1)) ∗ owing c 7 ∗ sent c (1, 0, 0) ∗ rest c stB0 T512 (fun _ => rfl))
    ⊢ WP c (atArgs (k0_part17 (F := F)) c v2 v484 v485 v487 v488)
      (fun r => iprop(own c accB (partB I c) ∗ rest c stB1 T512 (fun _ => rfl) ∗ sent c (1, 0, 1) ∗ owing c 8 ∗ pend c (1, 0, 0) ∗ any c stB0)) := by
  simp only [k0_part17_eq_skeleton]; unfold k0_part17_skel
  simp only [Prog.lift, Prog.bind_op, Prog.bind_ret, Prog.pure_eq_ret]
  iintro ⟨#He, HB, HS1, ⟨Hl1, Hr1⟩, HO, Ht0, HR0⟩
  ihave HS1 := (any_open c) $$ HS1; icases HS1 with ⟨%S1, HS1⟩
  iapply (load_own c (h' := inb512 1 _) (off2_eq c)) $$ HB; iintro HB
  iapply (load_any c) $$ HS1; iintro HS1
  iapply (store_lend c (h' := inb_S512x512_S512x512_0_0) rfl (s512 (partB I) 1 c) (show k0_pay42 _ = s512 (partB I) 1 c from rfl) (fun _ => rfl)) $$ HS1; iintro ⟨HS1, HR1⟩
  iapply (curry5 (send_step I K c (1, 0, 1) rfl rfl rfl (dev11_eq c) rfl rfl 7 rfl)) $$ He HS1 Hl1 HO Hr1; iintro ⟨Ht1, HO⟩
  iapply (curry3 (wait_send_step I K c (1, 0, 0) rfl rfl 8)) $$ He Ht0 HO; iintro ⟨HS0, Ht0, HO⟩
  ihave HS0 := (curry2 (unlend c T512 (fun _ => rfl) _)) $$ HS0 HR0
  iapply ret
  iframe

theorem part18 (v506 v509 v527 v531 : BitVec 32) :
    iprop(env I K ∗ pend c (1, 0, 0) ∗ sent c (1, 0, 1) ∗ owing c 8 ∗ rest c stB1 T512 (fun _ => rfl) ∗ own c accB (partB I c))
    ⊢ WP c (atArgs (k0_part18 (F := F)) c v506 v509 v527 v531)
      (fun r => iprop(⌜r = k0_pay44 (sub (R512 1 c) (Y1 c (partB I))) (i512 c (partB I) 1)⌝ ∗ done c (1, 0, 0) ∗ done c (1, 0, 1) ∗ owing c 8 ∗ any c stB1 ∗ any c (Memref.whole cc0_scratch14) ∗ any c (Memref.whole cc0_scratch17) ∗ own c accB (Y1 c (partB I)))) := by
  simp only [k0_part18_eq_skeleton]; unfold k0_part18_skel
  simp only [Prog.lift, Prog.bind_op, Prog.bind_ret, Prog.pure_eq_ret]
  iintro ⟨#He, Ht0, Ht1, HO, HR, HB⟩
  iapply (curry3 (wait_recv_step I K c (1, 0, 0) rfl rfl 8 (by decide))) $$ He Ht0 HO; iintro ⟨Hv0, Ht0, HO⟩
  iapply (curry3 (wait_send_step I K c (1, 0, 1) rfl rfl 8)) $$ He Ht1 HO; iintro ⟨HS, Ht1, HO⟩
  ihave HS := (curry2 (unlend c T512 (fun _ => rfl) _)) $$ HS HR
  iapply (curry3 (wait_recv_step I K c (1, 0, 1) rfl rfl 8 (by decide))) $$ He Ht1 HO; iintro ⟨Hv1, Ht1, HO⟩
  iapply (load_own c (h' := inb512 0 c) (off3_eq c)) $$ HB; iintro HB
  iapply (load_all c) $$ Hv0; iintro Hv0
  iapply (load_any c) $$ HB; iintro HB
  iapply (store_own c (h' := inb512 0 c) (off3_eq c) (Y1 c (partB I)) rfl) $$ HB; iintro HB
  ihave Hv0 := (any_intro c) $$ Hv0
  iapply (load_own c (h' := inb512 1 c) (off4_eq c)) $$ HB; iintro HB
  iapply (load_all c) $$ Hv1; iintro Hv1
  iapply (load_any c) $$ HB; iintro HB
  ihave Hv1 := (any_intro c) $$ Hv1
  iapply ret
  isplitr; · ipureintro; exact rfl
  iframe

theorem part19 (v2 v506 v527 : BitVec 32) :
    iprop(env I K ∗ own c accB (Y1 c (partB I)) ∗ any c stB0 ∗ (land I c (1, 1, 0) ∗ ready c (1, 1, 0)) ∗ owing c 8 ∗ any c stB1)
    ⊢ WP c (atArgs (k0_part19 (F := F)) c v2 v506 v527 (k0_pay44 (sub (R512 1 c) (Y1 c (partB I))) (i512 c (partB I) 1)))
      (fun r => iprop(⌜r.2.2.2.2 = k0_pay46 (sub (R256 1 (part (dir (1, 1, 1)) c)) (X1 (partB I) c))⌝ ∗ own c accB (X1 (partB I) c) ∗ rest c stB0 T256 (fun _ => rfl) ∗ sent c (1, 1, 0) ∗ owing c 9 ∗ any c stB1)) := by
  simp only [k0_part19_eq_skeleton]; unfold k0_part19_skel
  simp only [Prog.lift, Prog.bind_op, Prog.bind_ret, Prog.pure_eq_ret]
  iintro ⟨#He, HB, HS0, ⟨Hl0, Hr0⟩, HO, HS1⟩
  ihave HS0 := (any_open c) $$ HS0; icases HS0 with ⟨%S0, HS0⟩
  ihave HS1 := (any_open c) $$ HS1; icases HS1 with ⟨%S1, HS1⟩
  iapply (store_own c (h' := inb512 1 c) (off4_eq c) (X1 (partB I) c) rfl) $$ HB; iintro HB
  iapply (load_own c (h' := inb256 0 _) (off5_eq c)) $$ HB; iintro HB
  iapply (load_any c) $$ HS0; iintro HS0
  iapply (store_lend c (h' := inb_S512x512_S256x512_0_0) rfl (s256 (partB I) 0 c) (show k0_pay45 _ = s256 (partB I) 0 c from rfl) (fun _ => rfl)) $$ HS0; iintro ⟨HS0, HR0⟩
  iapply (curry5 (send_step I K c (1, 1, 0) rfl rfl rfl (dev12_eq c) rfl rfl 8 rfl)) $$ He HS0 Hl0 HO Hr0; iintro ⟨Ht0, HO⟩
  iapply (load_own c (h' := inb256 1 _) (off6_eq c)) $$ HB; iintro HB
  iapply (load_any c) $$ HS1; iintro HS1
  ihave HS1 := (any_intro c) $$ HS1
  iapply ret
  isplitr; · ipureintro; exact rfl
  iframe

theorem part20 (v527 v564 v584 v585 : BitVec 32) :
    iprop(env I K ∗ any c stB1 ∗ (land I c (1, 1, 1) ∗ ready c (1, 1, 1)) ∗ owing c 9 ∗ sent c (1, 1, 0) ∗ rest c stB0 T256 (fun _ => rfl))
    ⊢ WP c (atArgs (k0_part20 (F := F)) c v527 v564 v584 v585 (k0_pay46 (sub (R256 1 (part (dir (1, 1, 1)) c)) (X1 (partB I) c))))
      (fun r => iprop(pend c (1, 1, 1) ∗ done c (1, 1, 0) ∗ owing c 10 ∗ any c stB0 ∗ any c stB1 ∗ own c (Memref.whole cc0_scratch15) (i256 c (partB I) 0))) := by
  simp only [k0_part20_eq_skeleton]; unfold k0_part20_skel
  simp only [Prog.lift, Prog.bind_op, Prog.bind_ret, Prog.pure_eq_ret]
  iintro ⟨#He, HS1, ⟨Hl1, Hr1⟩, HO, Ht0, HR0⟩
  ihave HS1 := (any_open c) $$ HS1; icases HS1 with ⟨%S1, HS1⟩
  iapply (store_lend c (h' := inb_S512x512_S256x512_0_0) rfl (s256 (partB I) 1 c) (show k0_pay47 _ = s256 (partB I) 1 c from rfl) (fun _ => rfl)) $$ HS1; iintro ⟨HS1, HR1⟩
  iapply (curry5 (send_step I K c (1, 1, 1) rfl rfl rfl (dev13_eq c) rfl rfl 9 rfl)) $$ He HS1 Hl1 HO Hr1; iintro ⟨Ht1, HO⟩
  iapply (curry3 (wait_send_step I K c (1, 1, 0) rfl rfl 10)) $$ He Ht0 HO; iintro ⟨HS0, Ht0, HO⟩
  ihave HS0 := (curry2 (unlend c T256 (fun _ => rfl) _)) $$ HS0 HR0
  iapply (curry3 (wait_recv_step I K c (1, 1, 0) rfl rfl 10 (by decide))) $$ He Ht0 HO; iintro ⟨Hv0, Ht0, HO⟩
  iapply (curry3 (wait_send_step I K c (1, 1, 1) rfl rfl 10)) $$ He Ht1 HO; iintro ⟨HS1, Ht1, HO⟩
  ihave HS1 := (curry2 (unlend c T256 (fun _ => rfl) _)) $$ HS1 HR1
  iapply ret
  iframe; iexact Hv0

theorem part21 (v2 v582 v585 v603 : BitVec 32) :
    iprop(env I K ∗ pend c (1, 1, 1) ∗ owing c 10 ∗ own c accB (X1 (partB I) c) ∗ own c (Memref.whole cc0_scratch15) (i256 c (partB I) 0) ∗ any c stB0)
    ⊢ WP c (atArgs (k0_part21 (F := F)) c v2 v582 v585 v603)
      (fun r => iprop(done c (1, 1, 1) ∗ owing c 10 ∗ any c (Memref.whole cc0_scratch15) ∗ any c (Memref.whole cc0_scratch18) ∗ own c accB (X2 (partB I) c) ∗ own c (stB0.slice T128 (fun _ => rfl)) (s128 (partB I) 0 c) ∗ rest c stB0 T128 (fun _ => rfl))) := by
  simp only [k0_part21_eq_skeleton]; unfold k0_part21_skel
  simp only [Prog.lift, Prog.bind_op, Prog.bind_ret, Prog.pure_eq_ret]
  iintro ⟨#He, Ht1, HO, HB, Hv0, HS0⟩
  ihave HS0 := (any_open c) $$ HS0; icases HS0 with ⟨%S0, HS0⟩
  iapply (curry3 (wait_recv_step I K c (1, 1, 1) rfl rfl 10 (by decide))) $$ He Ht1 HO; iintro ⟨Hv1, Ht1, HO⟩
  iapply (load_own c (h' := inb256 0 c) (off7_eq c)) $$ HB; iintro HB
  iapply (load_all c) $$ Hv0; iintro Hv0
  iapply (load_any c) $$ HB; iintro HB
  iapply (store_own c (h' := inb256 0 c) (off7_eq c) (Y2 c (partB I)) rfl) $$ HB; iintro HB
  ihave Hv0 := (any_intro c) $$ Hv0
  iapply (load_own c (h' := inb256 1 c) (off8_eq c)) $$ HB; iintro HB
  iapply (load_all c) $$ Hv1; iintro Hv1
  iapply (load_any c) $$ HB; iintro HB
  iapply (store_own c (h' := inb256 1 c) (off8_eq c) (X2 (partB I) c) rfl) $$ HB; iintro HB
  ihave Hv1 := (any_intro c) $$ Hv1
  iapply (load_own c (h' := inb128 0 _) (off9_eq c)) $$ HB; iintro HB
  iapply (load_any c) $$ HS0; iintro HS0
  iapply (store_lend c (h' := inb_S512x512_S128x512_0_0) rfl (s128 (partB I) 0 c) (show k0_pay50 _ = s128 (partB I) 0 c from rfl) (fun _ => rfl)) $$ HS0; iintro ⟨HS0, HR0⟩
  iapply ret
  iframe

theorem part22 (v2 v582 v603 v639 v640 : BitVec 32) :
    iprop(env I K ∗ own c (stB0.slice T128 (fun _ => rfl)) (s128 (partB I) 0 c) ∗ (land I c (1, 2, 0) ∗ ready c (1, 2, 0)) ∗ owing c 10 ∗ own c accB (X2 (partB I) c) ∗ any c stB1 ∗ (land I c (1, 2, 1) ∗ ready c (1, 2, 1)))
    ⊢ WP c (atArgs (k0_part22 (F := F)) c v2 v582 v603 v639 v640)
      (fun r => iprop(sent c (1, 2, 0) ∗ sent c (1, 2, 1) ∗ owing c 12 ∗ own c accB (X2 (partB I) c) ∗ rest c stB1 T128 (fun _ => rfl))) := by
  simp only [k0_part22_eq_skeleton]; unfold k0_part22_skel
  simp only [Prog.lift, Prog.bind_op, Prog.bind_ret, Prog.pure_eq_ret]
  iintro ⟨#He, HS0, ⟨Hl0, Hr0⟩, HO, HB, HS1, ⟨Hl1, Hr1⟩⟩
  ihave HS1 := (any_open c) $$ HS1; icases HS1 with ⟨%S1, HS1⟩
  iapply (curry5 (send_step I K c (1, 2, 0) rfl rfl rfl (dev14_eq c) rfl rfl 10 rfl)) $$ He HS0 Hl0 HO Hr0; iintro ⟨Ht0, HO⟩
  iapply (load_own c (h' := inb128 1 _) (off10_eq c)) $$ HB; iintro HB
  iapply (load_any c) $$ HS1; iintro HS1
  iapply (store_lend c (h' := inb_S512x512_S128x512_0_0) rfl (s128 (partB I) 1 c) (show k0_pay51 _ = s128 (partB I) 1 c from rfl) (fun _ => rfl)) $$ HS1; iintro ⟨HS1, HR1⟩
  iapply (curry5 (send_step I K c (1, 2, 1) rfl rfl rfl (dev15_eq c) rfl rfl 11 rfl)) $$ He HS1 Hl1 HO Hr1; iintro ⟨Ht1, HO⟩
  iapply ret
  iframe

theorem part23 (v640 v658 v661 : BitVec 32) :
    iprop(env I K ∗ sent c (1, 2, 0) ∗ sent c (1, 2, 1) ∗ owing c 12 ∗ rest c stB0 T128 (fun _ => rfl) ∗ rest c stB1 T128 (fun _ => rfl) ∗ own c accB (X2 (partB I) c))
    ⊢ WP c (atArgs (k0_part23 (F := F)) c v640 v658 v661)
      (fun r => iprop(⌜r.1 = k0_pay52 (sub (R128 0 c) (X2 (partB I) c)) (i128 c (partB I) 0)⌝ ∗ done c (1, 2, 0) ∗ done c (1, 2, 1) ∗ owing c 12 ∗ any c stB0 ∗ any c stB1 ∗ any c (Memref.whole cc0_scratch16) ∗ own c (Memref.whole cc0_scratch19) (i128 c (partB I) 1) ∗ own c accB (X2 (partB I) c))) := by
  simp only [k0_part23_eq_skeleton]; unfold k0_part23_skel
  simp only [Prog.lift, Prog.bind_op, Prog.bind_ret, Prog.pure_eq_ret]
  iintro ⟨#He, Ht0, Ht1, HO, HR0, HR1, HB⟩
  iapply (curry3 (wait_send_step I K c (1, 2, 0) rfl rfl 12)) $$ He Ht0 HO; iintro ⟨HS0, Ht0, HO⟩
  ihave HS0 := (curry2 (unlend c T128 (fun _ => rfl) _)) $$ HS0 HR0
  iapply (curry3 (wait_recv_step I K c (1, 2, 0) rfl rfl 12 (by decide))) $$ He Ht0 HO; iintro ⟨Hv0, Ht0, HO⟩
  iapply (curry3 (wait_send_step I K c (1, 2, 1) rfl rfl 12)) $$ He Ht1 HO; iintro ⟨HS1, Ht1, HO⟩
  ihave HS1 := (curry2 (unlend c T128 (fun _ => rfl) _)) $$ HS1 HR1
  iapply (curry3 (wait_recv_step I K c (1, 2, 1) rfl rfl 12 (by decide))) $$ He Ht1 HO; iintro ⟨Hv1, Ht1, HO⟩
  iapply (load_own c (h' := inb128 0 c) (off11_eq c)) $$ HB; iintro HB
  iapply (load_all c) $$ Hv0; iintro Hv0
  iapply (load_any c) $$ HB; iintro HB
  ihave Hv0 := (any_intro c) $$ Hv0
  iapply ret
  isplitr; · ipureintro; exact rfl
  iframe; iexact Hv1

theorem part24 (v2 v21 v679 : BitVec 32) (v702) (G) :
    iprop(own c accB (X2 (partB I) c) ∗ own c (Memref.whole cc0_scratch19) (i128 c (partB I) 1) ∗ own c accA (X3 (partA I) c) ∗ own c outM G ∗ any c (g128 0 c) ∗ any c (g128 1 c))
    ⊢ WP c (atArgs (k0_part24 (F := F)) c v2 v21 v679 (k0_pay52 (sub (R128 0 c) (X2 (partB I) c)) (i128 c (partB I) 0)) v702)
      (fun r => iprop(⌜r.1 = k0_pay60 (sub (R128 1 c) (X3 (partA I) c)) (sub (R128 1 c) (X3 (partB I) c))⌝ ∗ any c (Memref.whole cc0_scratch19) ∗ own c accB (X3 (partB I) c) ∗ own c accA (X3 (partA I) c) ∗ own c outM (O2 I c G) ∗ own c (g128 0 c) (sub (R128 0 c) (gat I)) ∗ any c (g128 1 c))) := by
  simp only [k0_part24_eq_skeleton]; unfold k0_part24_skel
  simp only [Prog.lift, Prog.bind_op, Prog.bind_ret, Prog.pure_eq_ret]
  iintro ⟨HB, Hv1, HA, Ho, Hg0, Hg1⟩
  ihave Hg0 := (any_open c) $$ Hg0; icases Hg0 with ⟨%G0, Hg0⟩
  ihave Hg1 := (any_open c) $$ Hg1; icases Hg1 with ⟨%G1, Hg1⟩
  iapply (store_own c (h' := inb128 0 c) (off11_eq c) (Y3 c (partB I)) rfl) $$ HB; iintro HB
  iapply (load_own c (h' := inb128 1 c) (off12_eq c)) $$ HB; iintro HB
  iapply (load_all c) $$ Hv1; iintro Hv1
  iapply (load_any c) $$ HB; iintro HB
  iapply (store_own c (h' := inb128 1 c) (off12_eq c) (X3 (partB I) c) rfl) $$ HB; iintro HB
  ihave Hv1 := (any_intro c) $$ Hv1
  iapply (load_own c (h' := inb128 0 _) (off13_eq c)) $$ HA; iintro HA
  iapply (load_own c (h' := inb128 0 _) (off13_eq c)) $$ HB; iintro HB
  iapply (load_any c) $$ Ho; iintro Ho
  iapply (store_own c (h' := inb128' 0 c) (off14_eq c) ((Q128 0 c).overlay G (mine I c 0)) rfl) $$ Ho; iintro Ho
  iapply (load_in c (h' := inb128 0 c) (off13_eq c)) $$ Hg0; iintro Hg0
  iapply (store_in c (h' := inb128 0 c) (off13_eq c) (sub (R128 0 c) (gat I)) (sub_gat I 0 c).symm) $$ Hg0; iintro Hg0
  iapply (load_own c (h' := inb128 1 _) (off15_eq c)) $$ HA; iintro HA
  iapply (load_own c (h' := inb128 1 _) (off15_eq c)) $$ HB; iintro HB
  iapply (load_any c) $$ Ho; iintro Ho
  iapply (store_own c (h' := inb128' 1 c) (off16_eq c) (O2 I c G) rfl) $$ Ho; iintro Ho
  iapply (load_in c (h' := inb128 1 c) (off15_eq c)) $$ Hg1; iintro Hg1
  ihave Hg1 := (any_intro c) $$ Hg1
  iapply ret
  isplitr; · ipureintro; exact rfl
  iframe

end Cert.KernelIdeal.Run
-- ==== Proof.Gather.lean ====
/-
# The gathered array's regions

In each half the rows device `c` keeps after three rounds, and the rows its partners of the three
rounds keep, are all the rows: the gathering rounds put them together again, 128, 256, 512 rows.
-/
module

public import proofs.«01_k».proof.Proof.PartsB

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ) (c : Dev nD)

/-- An element of `m` rows of half `p`. -/
theorem mem_R (p : Fin 2) (n : ℕ) (c' : Dev nD) (m : ℕ)
    (inb : ∀ a, corner p n c' a + (![m, 512] : Fin 2 → ℕ) a ≤ S1024x1024.size a) (i : S1024x1024.Idx) :
    i ∈ (Rect.unit (s := S1024x1024) (corner p n c') ![m, 512] inb).set
      ↔ (lo p n c' ≤ (i 0).val ∧ (i 0).val < lo p n c' + m) ∧ 512 * p.val ≤ (i 1).val ∧ (i 1).val < 512 * p.val + 512 := by
  rw [Rect.mem_set_unit]
  constructor
  · intro H; exact ⟨H 0, H 1⟩
  · rintro ⟨H₁, H₂⟩ a
    match a with
    | ⟨0, _⟩ => exact H₁
    | ⟨1, _⟩ => exact H₂

/-- Twice `m` rows are `m` rows and `m` rows. -/
theorem rows_cut (p : Fin 2) (n n' : ℕ) (d c' : Dev nD) (m M : ℕ)
    (inb : ∀ a, corner p n d a + (![M, 512] : Fin 2 → ℕ) a ≤ S1024x1024.size a)
    (inb₁ : ∀ a, corner p n' d a + (![m, 512] : Fin 2 → ℕ) a ≤ S1024x1024.size a)
    (inb₂ : ∀ a, corner p n' c' a + (![m, 512] : Fin 2 → ℕ) a ≤ S1024x1024.size a) (hM : M = m + m)
    (h : (lo p n' d = lo p n d ∧ lo p n' c' = lo p n d + m) ∨ (lo p n' c' = lo p n d ∧ lo p n' d = lo p n d + m)) :
    (Rect.unit (s := S1024x1024) (corner p n d) ![M, 512] inb).set
        = (Rect.unit (s := S1024x1024) (corner p n' d) ![m, 512] inb₁).set ∪ (Rect.unit (s := S1024x1024) (corner p n' c') ![m, 512] inb₂).set
      ∧ Disjoint (Rect.unit (s := S1024x1024) (corner p n' d) ![m, 512] inb₁).set (Rect.unit (s := S1024x1024) (corner p n' c') ![m, 512] inb₂).set := by
  constructor
  · ext i
    rw [Finset.mem_union, mem_R, mem_R, mem_R]
    omega
  · rw [Finset.disjoint_left]
    intro i h₁ h₂
    rw [mem_R] at h₁ h₂
    omega

theorem cut256 (p : Fin 2) (X : S1024x1024.Idx → F .bf16) :
    (own c (g256 p c) (sub (R256 p c) X) : sProp 𝕄)
      ⊣⊢ iprop(own c (g128 p c) (sub (R128 p c) X) ∗ own c (g128 p (part (dir (2, 0, p)) c)) (sub (R128 p (part (dir (2, 0, p)) c)) X)) :=
  have h := rows_cut p 2 3 c (part (dir (2, 0, p)) c) 128 256 (inb256 p c) (inb128 p c) (inb128 p _) rfl (by revert p c; decide)
  owns_cut c gath (R256 p c) (R128 p c) (R128 p _) _ _ _ h.1 h.2 X

theorem cut512 (p : Fin 2) (X : S1024x1024.Idx → F .bf16) :
    (own c (g512 p c) (sub (R512 p c) X) : sProp 𝕄)
      ⊣⊢ iprop(own c (g256 p c) (sub (R256 p c) X) ∗ own c (g256 p (part (dir (2, 1, p)) c)) (sub (R256 p (part (dir (2, 1, p)) c)) X)) :=
  have h := rows_cut p 1 2 c (part (dir (2, 1, p)) c) 256 512 (inb512 p c) (inb256 p c) (inb256 p _) rfl (by revert p c; decide)
  owns_cut c gath (R512 p c) (R256 p c) (R256 p _) _ _ _ h.1 h.2 X

theorem cut1024 (p : Fin 2) (X : S1024x1024.Idx → F .bf16) :
    (own c (gath.slice (RB p) (fun _ => rfl)) (sub (RB p) X) : sProp 𝕄)
      ⊣⊢ iprop(own c (g512 p c) (sub (R512 p c) X) ∗ own c (g512 p (part (dir (2, 2, p)) c)) (sub (R512 p (part (dir (2, 2, p)) c)) X)) := by
  have h : (lo p 1 c = 0 ∧ lo p 1 (part (dir (2, 2, p)) c) = 512) ∨ (lo p 1 (part (dir (2, 2, p)) c) = 0 ∧ lo p 1 c = 512) := by revert p c; decide
  have hm : ∀ i : S1024x1024.Idx, i ∈ (RB p).set ↔ 512 * p.val ≤ (i 1).val ∧ (i 1).val < 512 * p.val + 512 := by
    intro i
    rw [Rect.mem_set_unit]
    exact ⟨fun H => H 1, fun H a => match a with
      | ⟨0, _⟩ => ⟨Nat.zero_le _, by show (i 0).val < 0 + 1024; have : (i 0).val < 1024 := (i 0).isLt; omega⟩
      | ⟨1, _⟩ => H⟩
  refine owns_cut c gath (RB p) (R512 p c) (R512 p _) _ _ _ ?_ ?_ X
  · ext i
    have : (i 0).val < 1024 := (i 0).isLt
    rw [Finset.mem_union, hm, mem_R, mem_R]
    omega
  · rw [Finset.disjoint_left]
    intro i h₁ h₂
    rw [mem_R] at h₁ h₂
    omega

theorem inb_all : ∀ a, (![0, 0] : Fin 2 → ℕ) a + S1024x1024.size a ≤ S1024x1024.size a := by decide
/-- All of the gathered array, as a rectangle. -/
abbrev RW : Rect S1024x1024 := Rect.unit (s := S1024x1024) ![0, 0] S1024x1024.size inb_all

/-- The whole gathered array by halves. -/
theorem cut_halves (X : S1024x1024.Idx → F .bf16) :
    (own c (gath.slice RW (fun _ => rfl)) (sub RW X) : sProp 𝕄)
      ⊣⊢ iprop(own c (gath.slice (RB 0) (fun _ => rfl)) (sub (RB 0) X) ∗ own c (gath.slice (RB 1) (fun _ => rfl)) (sub (RB 1) X)) := by
  have hm : ∀ (p : Fin 2) (i : S1024x1024.Idx), i ∈ (RB p).set ↔ 512 * p.val ≤ (i 1).val ∧ (i 1).val < 512 * p.val + 512 := by
    intro p i
    rw [Rect.mem_set_unit]
    exact ⟨fun H => H 1, fun H a => match a with
      | ⟨0, _⟩ => ⟨Nat.zero_le _, by show (i 0).val < 0 + 1024; have : (i 0).val < 1024 := (i 0).isLt; omega⟩
      | ⟨1, _⟩ => H⟩
  have hw : ∀ i : S1024x1024.Idx, i ∈ RW.set := by
    intro i
    rw [Rect.mem_set_unit]
    exact fun a => match a with
      | ⟨0, _⟩ => ⟨Nat.zero_le _, by show (i 0).val < 0 + 1024; have : (i 0).val < 1024 := (i 0).isLt; omega⟩
      | ⟨1, _⟩ => ⟨Nat.zero_le _, by show (i 1).val < 0 + 1024; have : (i 1).val < 1024 := (i 1).isLt; omega⟩
  refine owns_cut c gath RW (RB 0) (RB 1) _ _ _ ?_ ?_ X
  · ext i
    have : (i 1).val < 1024 := (i 1).isLt
    rw [Finset.mem_union, hm, hm]
    refine ⟨fun _ => ?_, fun _ => hw i⟩
    show (512 * 0 ≤ _ ∧ _ < 512 * 0 + 512) ∨ (512 * 1 ≤ _ ∧ _ < 512 * 1 + 512)
    omega
  · rw [Finset.disjoint_left]
    intro i h₁ h₂
    rw [hm] at h₁ h₂
    have h₁ : _ ∧ (i 1).val < 512 * 0 + 512 := h₁
    have h₂ : 512 * 1 ≤ (i 1).val ∧ _ := h₂
    omega

/-- The regions of half `p` the partners write, and the one kept. -/
def regions (p : Fin 2) : sProp 𝕄 :=
  iprop(any (F := F) c (g128 p c) ∗ any c (g128 p (part (dir (2, 0, p)) c)) ∗ any c (g256 p (part (dir (2, 1, p)) c)) ∗ any c (g512 p (part (dir (2, 2, p)) c)))

theorem regions_half (p : Fin 2) (X : S1024x1024.Idx → F .bf16) :
    (own c (gath.slice (RB p) (fun _ => rfl)) (sub (RB p) X) : sProp 𝕄) ⊢ regions c p := by
  unfold regions
  iintro H
  ihave H := (cut1024 c p X).1 $$ H; icases H with ⟨H, H2⟩
  ihave H := (cut512 c p X).1 $$ H; icases H with ⟨H, H1⟩
  ihave H := (cut256 c p X).1 $$ H; icases H with ⟨H, H0⟩
  ihave H2 := (any_intro c) $$ H2
  ihave H1 := (any_intro c) $$ H1
  ihave H0 := (any_intro c) $$ H0
  ihave H := (any_intro c) $$ H
  iframe

/-- At entry: the gathered array's regions. -/
theorem regions_open : (any c gath : sProp 𝕄) ⊢ iprop(regions c 0 ∗ regions c 1 ∗ rest c gath RW (fun _ => rfl)) := by
  iintro H
  ihave H := (any_open c) $$ H; icases H with ⟨%X, H⟩
  ihave H := (lend c RW (fun _ => rfl)) $$ H; icases H with ⟨H, Hr⟩
  ihave H := (cut_halves c X).1 $$ H; icases H with ⟨H0, H1⟩
  ihave H0 := (regions_half c 0 X) $$ H0
  ihave H1 := (regions_half c 1 X) $$ H1
  iframe

/-- What device `c` holds of half `p` at the end. -/
abbrev gathered (p : Fin 2) : sProp 𝕄 :=
  iprop(own c (g512 p c) (sub (R512 p c) (gat I)) ∗ own c (g512 p (part (dir (2, 2, p)) c)) (sub (R512 p (part (dir (2, 2, p)) c)) (gat I)))

/-- At the end: the gathered array, whole. -/
theorem regions_close : iprop(gathered I c 0 ∗ gathered I c 1 ∗ rest c gath RW (fun _ => rfl)) ⊢ (any c gath : sProp 𝕄) := by
  iintro ⟨H0, H1, Hr⟩
  ihave H0 := (cut1024 c 0 (gat I)).2 $$ H0
  ihave H1 := (cut1024 c 1 (gat I)).2 $$ H1
  ihave H := (cut_halves c (gat I)).2 $$ [H0 H1]
  · iframe
  iapply (curry2 (unlend c RW (fun _ => rfl) _)) $$ H Hr

end Cert.KernelIdeal.Run
-- ==== Proof.PartsC.lean ====
/-
# The body, parts 25 to 31: the all-gather
-/
module

public import proofs.«01_k».proof.Proof.Gather

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ) (c : Dev nD)

/-- The result's block with the partners' rows written, after the first round, -/
abbrev O4 (X : S1x1024x1024.Idx → F .f32) : S1x1024x1024.Idx → F .f32 :=
  (Q128 1 (part (dir (2, 0, 1)) c)).overlay ((Q128 0 (part (dir (2, 0, 0)) c)).overlay X (k0_pay62 (sub (R128 0 (part (dir (2, 0, 0)) c)) (gat I))))
    (k0_pay62 (sub (R128 1 (part (dir (2, 0, 1)) c)) (gat I)))
/-- the second, -/
abbrev O6 (X : S1x1024x1024.Idx → F .f32) : S1x1024x1024.Idx → F .f32 :=
  (Q256 1 (part (dir (2, 1, 1)) c)).overlay ((Q256 0 (part (dir (2, 1, 0)) c)).overlay X (k0_pay64 (sub (R256 0 (part (dir (2, 1, 0)) c)) (gat I))))
    (k0_pay64 (sub (R256 1 (part (dir (2, 1, 1)) c)) (gat I)))
/-- and the third. -/
abbrev O8 (X : S1x1024x1024.Idx → F .f32) : S1x1024x1024.Idx → F .f32 :=
  (Q512 1 (part (dir (2, 2, 1)) c)).overlay ((Q512 0 (part (dir (2, 2, 0)) c)).overlay X (k0_pay1 (sub (R512 0 (part (dir (2, 2, 0)) c)) (gat I))))
    (k0_pay1 (sub (R512 1 (part (dir (2, 2, 1)) c)) (gat I)))

theorem part25 (v2 v21 : BitVec 32) (v741) :
    iprop(env I K ∗ any c (g128 1 c) ∗ own c (g128 0 c) (sub (R128 0 c) (gat I)) ∗ (land I c (2, 0, 0) ∗ ready c (2, 0, 0)) ∗ owing c 12)
    ⊢ WP c (atArgs (k0_part25 (F := F)) c v2 v21 (k0_pay60 (sub (R128 1 c) (X3 (partA I) c)) (sub (R128 1 c) (X3 (partB I) c))) v741)
      (fun r => iprop(own c (g128 1 c) (sub (R128 1 c) (gat I)) ∗ sent c (2, 0, 0) ∗ owing c 13)) := by
  simp only [k0_part25_eq_skeleton]; unfold k0_part25_skel
  simp only [Prog.lift, Prog.bind_op, Prog.bind_ret, Prog.pure_eq_ret]
  iintro ⟨#He, Hg1, Hg0, ⟨Hl0, Hr0⟩, HO⟩
  ihave Hg1 := (any_open c) $$ Hg1; icases Hg1 with ⟨%G1, Hg1⟩
  iapply (store_in c (h' := inb128 1 c) (off15_eq c) (sub (R128 1 c) (gat I)) (sub_gat I 1 c).symm) $$ Hg1; iintro Hg1
  iapply (curry5 (send_step I K c (2, 0, 0) rfl (slice_off gath (off17_eq c)) (slice_off gath (off17_eq c)) (dev16_eq c) rfl rfl 12 rfl)) $$ He Hg0 Hl0 HO Hr0; iintro ⟨Ht0, HO⟩
  iapply ret
  iframe

theorem part26 (v744 v757 : BitVec 32) :
    iprop(env I K ∗ own c (g128 1 c) (sub (R128 1 c) (gat I)) ∗ (land I c (2, 0, 1) ∗ ready c (2, 0, 1)) ∗ owing c 13 ∗ sent c (2, 0, 0))
    ⊢ WP c (atArgs (k0_part26 (F := F)) c v744 v757)
      (fun r => iprop(own c (g128 0 c) (sub (R128 0 c) (gat I)) ∗ own c (g128 0 (part (dir (2, 0, 0)) c)) (sub (R128 0 (part (dir (2, 0, 0)) c)) (gat I)) ∗ own c (g128 1 c) (sub (R128 1 c) (gat I)) ∗ done c (2, 0, 0) ∗ pend c (2, 0, 1) ∗ owing c 14)) := by
  simp only [k0_part26_eq_skeleton]; unfold k0_part26_skel
  simp only [Prog.lift, Prog.bind_op, Prog.bind_ret, Prog.pure_eq_ret]
  iintro ⟨#He, Hg1, ⟨Hl1, Hr1⟩, HO, Ht0⟩
  iapply (curry5 (send_step I K c (2, 0, 1) rfl (slice_off gath (off18_eq c)) (slice_off gath (off18_eq c)) (dev17_eq c) rfl rfl 13 rfl)) $$ He Hg1 Hl1 HO Hr1; iintro ⟨Ht1, HO⟩
  iapply (curry3 (wait_send_step I K c (2, 0, 0) rfl rfl 14)) $$ He Ht0 HO; iintro ⟨Hg0, Ht0, HO⟩
  iapply (curry3 (wait_recv_step I K c (2, 0, 0) rfl rfl 14 (by decide))) $$ He Ht0 HO; iintro ⟨Hp0, Ht0, HO⟩
  iapply (curry3 (wait_send_step I K c (2, 0, 1) rfl rfl 14)) $$ He Ht1 HO; iintro ⟨Hg1, Ht1, HO⟩
  iapply ret
  iframe

theorem part27 (v2 v748 v770 : BitVec 32) (X) :
    iprop(env I K ∗ pend c (2, 0, 1) ∗ owing c 14 ∗ own c (g128 0 c) (sub (R128 0 c) (gat I)) ∗ own c (g128 0 (part (dir (2, 0, 0)) c)) (sub (R128 0 (part (dir (2, 0, 0)) c)) (gat I)) ∗ own c outM X ∗ (land I c (2, 1, 0) ∗ ready c (2, 1, 0)))
    ⊢ WP c (atArgs (k0_part27 (F := F)) c v2 v748 v770)
      (fun r => iprop(done c (2, 0, 1) ∗ own c (g128 1 (part (dir (2, 0, 1)) c)) (sub (R128 1 (part (dir (2, 0, 1)) c)) (gat I)) ∗ own c outM (O4 I c X) ∗ sent c (2, 1, 0) ∗ owing c 15)) := by
  simp only [k0_part27_eq_skeleton]; unfold k0_part27_skel
  simp only [Prog.lift, Prog.bind_op, Prog.bind_ret, Prog.pure_eq_ret]
  iintro ⟨#He, Ht1, HO, Hg0, Hp0, Ho, ⟨Hl0, Hr0⟩⟩
  iapply (curry3 (wait_recv_step I K c (2, 0, 1) rfl rfl 14 (by decide))) $$ He Ht1 HO; iintro ⟨Hp1, Ht1, HO⟩
  iapply (load_in c (h' := inb128 0 _) (off19_eq c)) $$ Hp0; iintro Hp0
  iapply (load_any c) $$ Ho; iintro Ho
  iapply (store_own c (h' := inb128' 0 _) (off20_eq c) ((Q128 0 (part (dir (2, 0, 0)) c)).overlay X (k0_pay62 (sub (R128 0 (part (dir (2, 0, 0)) c)) (gat I)))) rfl) $$ Ho; iintro Ho
  iapply (load_in c (h' := inb128 1 _) (off21_eq c)) $$ Hp1; iintro Hp1
  iapply (load_any c) $$ Ho; iintro Ho
  iapply (store_own c (h' := inb128' 1 _) (off22_eq c) (O4 I c X) rfl) $$ Ho; iintro Ho
  ihave Hg0 := (curry2 (cut256 c 0 (gat I)).2) $$ Hg0 Hp0
  iapply (curry5 (send_step I K c (2, 1, 0) rfl (slice_off gath (off23_eq c)) (slice_off gath (off23_eq c)) (dev18_eq c) rfl rfl 14 rfl)) $$ He Hg0 Hl0 HO Hr0; iintro ⟨Ht0, HO⟩
  iapply ret
  iframe

theorem part28 (v21 v813 v826 v827 : BitVec 32) :
    iprop(env I K ∗ own c (g128 1 c) (sub (R128 1 c) (gat I)) ∗ own c (g128 1 (part (dir (2, 0, 1)) c)) (sub (R128 1 (part (dir (2, 0, 1)) c)) (gat I)) ∗ (land I c (2, 1, 1) ∗ ready c (2, 1, 1)) ∗ owing c 15 ∗ sent c (2, 1, 0))
    ⊢ WP c (atArgs (k0_part28 (F := F)) c v21 v813 v826 v827)
      (fun r => iprop(sent c (2, 1, 1) ∗ pend c (2, 1, 0) ∗ own c (g256 0 c) (sub (R256 0 c) (gat I)) ∗ owing c 16)) := by
  simp only [k0_part28_eq_skeleton]; unfold k0_part28_skel
  simp only [Prog.lift, Prog.bind_op, Prog.bind_ret, Prog.pure_eq_ret]
  iintro ⟨#He, Hg1, Hp1, ⟨Hl1, Hr1⟩, HO, Ht0⟩
  ihave Hg1 := (curry2 (cut256 c 1 (gat I)).2) $$ Hg1 Hp1
  iapply (curry5 (send_step I K c (2, 1, 1) rfl (slice_off gath (off24_eq c)) (slice_off gath (off24_eq c)) (dev19_eq c) rfl rfl 15 rfl)) $$ He Hg1 Hl1 HO Hr1; iintro ⟨Ht1, HO⟩
  iapply (curry3 (wait_send_step I K c (2, 1, 0) rfl rfl 16)) $$ He Ht0 HO; iintro ⟨Hg0, Ht0, HO⟩
  iapply ret
  iframe

theorem part29 (v2 v817 v826 v839 : BitVec 32) (X) :
    iprop(env I K ∗ pend c (2, 1, 0) ∗ sent c (2, 1, 1) ∗ owing c 16 ∗ own c outM X)
    ⊢ WP c (atArgs (k0_part29 (F := F)) c v2 v817 v826 v839)
      (fun r => iprop(done c (2, 1, 0) ∗ done c (2, 1, 1) ∗ own c (g256 0 (part (dir (2, 1, 0)) c)) (sub (R256 0 (part (dir (2, 1, 0)) c)) (gat I)) ∗ own c (g256 1 (part (dir (2, 1, 1)) c)) (sub (R256 1 (part (dir (2, 1, 1)) c)) (gat I)) ∗ own c (g256 1 c) (sub (R256 1 c) (gat I)) ∗ own c outM (O6 I c X) ∗ owing c 16)) := by
  simp only [k0_part29_eq_skeleton]; unfold k0_part29_skel
  simp only [Prog.lift, Prog.bind_op, Prog.bind_ret, Prog.pure_eq_ret]
  iintro ⟨#He, Ht0, Ht1, HO, Ho⟩
  iapply (curry3 (wait_recv_step I K c (2, 1, 0) rfl rfl 16 (by decide))) $$ He Ht0 HO; iintro ⟨Hp0, Ht0, HO⟩
  iapply (curry3 (wait_send_step I K c (2, 1, 1) rfl rfl 16)) $$ He Ht1 HO; iintro ⟨Hg1, Ht1, HO⟩
  iapply (curry3 (wait_recv_step I K c (2, 1, 1) rfl rfl 16 (by decide))) $$ He Ht1 HO; iintro ⟨Hp1, Ht1, HO⟩
  iapply (load_in c (h' := inb256 0 _) (off25_eq c)) $$ Hp0; iintro Hp0
  iapply (load_any c) $$ Ho; iintro Ho
  iapply (store_own c (h' := inb256' 0 _) (off26_eq c) ((Q256 0 (part (dir (2, 1, 0)) c)).overlay X (k0_pay64 (sub (R256 0 (part (dir (2, 1, 0)) c)) (gat I)))) rfl) $$ Ho; iintro Ho
  iapply (load_in c (h' := inb256 1 _) (off27_eq c)) $$ Hp1; iintro Hp1
  iapply (load_any c) $$ Ho; iintro Ho
  iapply (store_own c (h' := inb256' 1 _) (off28_eq c) (O6 I c X) rfl) $$ Ho; iintro Ho
  iapply ret
  iframe

theorem part30 (v2 v21 v882 v883 w : BitVec 32) :
    iprop(env I K ∗ own c (g256 0 c) (sub (R256 0 c) (gat I)) ∗ own c (g256 0 (part (dir (2, 1, 0)) c)) (sub (R256 0 (part (dir (2, 1, 0)) c)) (gat I)) ∗ (land I c (2, 2, 0) ∗ ready c (2, 2, 0)) ∗ owing c 16)
    ⊢ WP c (atArgs (k0_part30 (F := F)) c v2 v21 v882 v883 w)
      (fun r => iprop(sent c (2, 2, 0) ∗ owing c 17)) := by
  simp only [k0_part30_eq_skeleton]; unfold k0_part30_skel
  simp only [Prog.lift, Prog.bind_op, Prog.bind_ret, Prog.pure_eq_ret]
  iintro ⟨#He, Hg0, Hp0, ⟨Hl0, Hr0⟩, HO⟩
  ihave Hg0 := (curry2 (cut512 c 0 (gat I)).2) $$ Hg0 Hp0
  iapply (curry5 (send_step I K c (2, 2, 0) rfl (slice_off gath (off29_eq c)) (slice_off gath (off29_eq c)) (dev20_eq c) rfl rfl 16 rfl)) $$ He Hg0 Hl0 HO Hr0; iintro ⟨Ht0, HO⟩
  iapply ret
  iframe

theorem part31 (v882 v886 v895 : BitVec 32) :
    iprop(env I K ∗ own c (g256 1 c) (sub (R256 1 c) (gat I)) ∗ own c (g256 1 (part (dir (2, 1, 1)) c)) (sub (R256 1 (part (dir (2, 1, 1)) c)) (gat I)) ∗ (land I c (2, 2, 1) ∗ ready c (2, 2, 1)) ∗ owing c 17 ∗ sent c (2, 2, 0))
    ⊢ WP c (atArgs (k0_part31 (F := F)) c v882 v886 v895)
      (fun r => iprop(done c (2, 2, 0) ∗ done c (2, 2, 1) ∗ own c (g512 0 c) (sub (R512 0 c) (gat I)) ∗ own c (g512 0 (part (dir (2, 2, 0)) c)) (sub (R512 0 (part (dir (2, 2, 0)) c)) (gat I)) ∗ own c (g512 1 c) (sub (R512 1 c) (gat I)) ∗ own c (g512 1 (part (dir (2, 2, 1)) c)) (sub (R512 1 (part (dir (2, 2, 1)) c)) (gat I)) ∗ owing c 18)) := by
  simp only [k0_part31_eq_skeleton]; unfold k0_part31_skel
  simp only [Prog.lift, Prog.bind_op, Prog.bind_ret, Prog.pure_eq_ret]
  iintro ⟨#He, Hg1, Hp1, ⟨Hl1, Hr1⟩, HO, Ht0⟩
  ihave Hg1 := (curry2 (cut512 c 1 (gat I)).2) $$ Hg1 Hp1
  iapply (curry5 (send_step I K c (2, 2, 1) rfl (slice_off gath (off30_eq c)) (slice_off gath (off30_eq c)) (dev21_eq c) rfl rfl 17 rfl)) $$ He Hg1 Hl1 HO Hr1; iintro ⟨Ht1, HO⟩
  iapply (curry3 (wait_send_step I K c (2, 2, 0) rfl rfl 18)) $$ He Ht0 HO; iintro ⟨Hg0, Ht0, HO⟩
  iapply (curry3 (wait_recv_step I K c (2, 2, 0) rfl rfl 18 (by decide))) $$ He Ht0 HO; iintro ⟨Hp0, Ht0, HO⟩
  iapply (curry3 (wait_send_step I K c (2, 2, 1) rfl rfl 18)) $$ He Ht1 HO; iintro ⟨Hg1, Ht1, HO⟩
  iapply (curry3 (wait_recv_step I K c (2, 2, 1) rfl rfl 18 (by decide))) $$ He Ht1 HO; iintro ⟨Hp1, Ht1, HO⟩
  iapply ret
  iframe

end Cert.KernelIdeal.Run
-- ==== Proof.Body.lean ====
/-
# The body, run

From the inputs, the scratch buffers and the tokens of one device to its result, with every
semaphore back at zero.
-/
module

public import proofs.«01_k».proof.Proof.PartsC

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : Dev nD × CK → ℕ) (c : Dev nD)

/-- All of the transfers. -/
theorem all_xfers (Φ : Xfer → sProp 𝕄) : bigSep Finset.univ Φ
    = iprop(Φ (0, 0, 0) ∗ Φ (0, 0, 1) ∗ Φ (0, 1, 0) ∗ Φ (0, 1, 1) ∗ Φ (0, 2, 0) ∗ Φ (0, 2, 1) ∗ Φ (1, 0, 0) ∗ Φ (1, 0, 1) ∗ Φ (1, 1, 0) ∗ Φ (1, 1, 1) ∗ Φ (1, 2, 0) ∗ Φ (1, 2, 1) ∗ Φ (2, 0, 0) ∗ Φ (2, 0, 1) ∗ Φ (2, 1, 0) ∗ Φ (2, 1, 1) ∗ Φ (2, 2, 0) ∗ Φ (2, 2, 1)) :=
  bigSep_univ_eq_bigSepL [(0, 0, 0), (0, 0, 1), (0, 1, 0), (0, 1, 1), (0, 2, 0), (0, 2, 1), (1, 0, 0), (1, 0, 1), (1, 1, 0), (1, 1, 1), (1, 2, 0), (1, 2, 1), (2, 0, 0), (2, 0, 1), (2, 1, 0), (2, 1, 1), (2, 2, 0), (2, 2, 1)] (by decide) (by decide) Φ

/-- The scratch buffers, of any contents. -/
def scratch : sProp 𝕄 := iprop(any (F := F) c accA ∗ any c accB ∗ any c ctx ∗ any c gath ∗ any c stA0 ∗ any c stA1 ∗ any c stB0 ∗ any c stB1 ∗ any c (Memref.whole cc0_scratch8) ∗ any c (Memref.whole cc0_scratch9) ∗ any c (Memref.whole cc0_scratch10) ∗ any c (Memref.whole cc0_scratch11) ∗ any c (Memref.whole cc0_scratch12) ∗ any c (Memref.whole cc0_scratch13) ∗ any c (Memref.whole cc0_scratch14) ∗ any c (Memref.whole cc0_scratch15) ∗ any c (Memref.whole cc0_scratch16) ∗ any c (Memref.whole cc0_scratch17) ∗ any c (Memref.whole cc0_scratch18) ∗ any c (Memref.whole cc0_scratch19))

/-- What device `c` hands its partners at entry: where their transfers land. -/
theorem pays :
    iprop(any c (Memref.whole cc0_scratch8) ∗ any c (Memref.whole cc0_scratch11) ∗ any c (Memref.whole cc0_scratch9) ∗ any c (Memref.whole cc0_scratch12) ∗ any c (Memref.whole cc0_scratch10) ∗ any c (Memref.whole cc0_scratch13) ∗ any c (Memref.whole cc0_scratch14) ∗ any c (Memref.whole cc0_scratch17) ∗ any c (Memref.whole cc0_scratch15) ∗ any c (Memref.whole cc0_scratch18) ∗ any c (Memref.whole cc0_scratch16) ∗ any c (Memref.whole cc0_scratch19) ∗ any c (g128 0 (part (dir (2, 0, 0)) c)) ∗ any c (g128 1 (part (dir (2, 0, 1)) c)) ∗ any c (g256 0 (part (dir (2, 1, 0)) c)) ∗ any c (g256 1 (part (dir (2, 1, 1)) c)) ∗ any c (g512 0 (part (dir (2, 2, 0)) c)) ∗ any c (g512 1 (part (dir (2, 2, 1)) c)))
    ⊢ (iprop(barPay I (part 0 c) 0 ∗ barPay I (part 1 c) 1 ∗ barPay I (part 2 c) 2) : sProp 𝕄) := by
  show _ ⊢ iprop((land I (part 0 c) (0, 1, 1) ∗ land I (part 0 c) (0, 2, 0) ∗ land I (part 0 c) (1, 1, 1) ∗ land I (part 0 c) (1, 2, 0) ∗ land I (part 0 c) (2, 0, 0) ∗ land I (part 0 c) (2, 1, 1)) ∗ (land I (part 1 c) (0, 0, 1) ∗ land I (part 1 c) (0, 1, 0) ∗ land I (part 1 c) (1, 0, 1) ∗ land I (part 1 c) (1, 1, 0) ∗ land I (part 1 c) (2, 1, 0) ∗ land I (part 1 c) (2, 2, 1)) ∗ (land I (part 2 c) (0, 0, 0) ∗ land I (part 2 c) (0, 2, 1) ∗ land I (part 2 c) (1, 0, 0) ∗ land I (part 2 c) (1, 2, 1) ∗ land I (part 2 c) (2, 0, 1) ∗ land I (part 2 c) (2, 2, 0)))
  rw [show land I (part 0 c) (0, 1, 1) = any c (Memref.whole cc0_scratch12) from land_part I c (0, 1, 1)]
  rw [show land I (part 0 c) (0, 2, 0) = any c (Memref.whole cc0_scratch10) from land_part I c (0, 2, 0)]
  rw [show land I (part 0 c) (1, 1, 1) = any c (Memref.whole cc0_scratch18) from land_part I c (1, 1, 1)]
  rw [show land I (part 0 c) (1, 2, 0) = any c (Memref.whole cc0_scratch16) from land_part I c (1, 2, 0)]
  rw [show land I (part 0 c) (2, 0, 0) = any c (g128 0 (part (dir (2, 0, 0)) c)) from land_part I c (2, 0, 0)]
  rw [show land I (part 0 c) (2, 1, 1) = any c (g256 1 (part (dir (2, 1, 1)) c)) from land_part I c (2, 1, 1)]
  rw [show land I (part 1 c) (0, 0, 1) = any c (Memref.whole cc0_scratch11) from land_part I c (0, 0, 1)]
  rw [show land I (part 1 c) (0, 1, 0) = any c (Memref.whole cc0_scratch9) from land_part I c (0, 1, 0)]
  rw [show land I (part 1 c) (1, 0, 1) = any c (Memref.whole cc0_scratch17) from land_part I c (1, 0, 1)]
  rw [show land I (part 1 c) (1, 1, 0) = any c (Memref.whole cc0_scratch15) from land_part I c (1, 1, 0)]
  rw [show land I (part 1 c) (2, 1, 0) = any c (g256 0 (part (dir (2, 1, 0)) c)) from land_part I c (2, 1, 0)]
  rw [show land I (part 1 c) (2, 2, 1) = any c (g512 1 (part (dir (2, 2, 1)) c)) from land_part I c (2, 2, 1)]
  rw [show land I (part 2 c) (0, 0, 0) = any c (Memref.whole cc0_scratch8) from land_part I c (0, 0, 0)]
  rw [show land I (part 2 c) (0, 2, 1) = any c (Memref.whole cc0_scratch13) from land_part I c (0, 2, 1)]
  rw [show land I (part 2 c) (1, 0, 0) = any c (Memref.whole cc0_scratch14) from land_part I c (1, 0, 0)]
  rw [show land I (part 2 c) (1, 2, 1) = any c (Memref.whole cc0_scratch19) from land_part I c (1, 2, 1)]
  rw [show land I (part 2 c) (2, 0, 1) = any c (g128 1 (part (dir (2, 0, 1)) c)) from land_part I c (2, 0, 1)]
  rw [show land I (part 2 c) (2, 2, 0) = any c (g512 0 (part (dir (2, 2, 0)) c)) from land_part I c (2, 2, 0)]
  iintro ⟨H000, H001, H010, H011, H020, H021, H100, H101, H110, H111, H120, H121, H200, H201, H210, H211, H220, H221⟩
  iframe

/-- What it is handed: where its own transfers land. -/
theorem paid :
    (iprop(barPay I c 0 ∗ barPay I c 1 ∗ barPay I c 2) : sProp 𝕄)
    ⊢ iprop(land I c (0, 0, 0) ∗ land I c (0, 0, 1) ∗ land I c (0, 1, 0) ∗ land I c (0, 1, 1) ∗ land I c (0, 2, 0) ∗ land I c (0, 2, 1) ∗ land I c (1, 0, 0) ∗ land I c (1, 0, 1) ∗ land I c (1, 1, 0) ∗ land I c (1, 1, 1) ∗ land I c (1, 2, 0) ∗ land I c (1, 2, 1) ∗ land I c (2, 0, 0) ∗ land I c (2, 0, 1) ∗ land I c (2, 1, 0) ∗ land I c (2, 1, 1) ∗ land I c (2, 2, 0) ∗ land I c (2, 2, 1)) := by
  show iprop((land I c (0, 1, 1) ∗ land I c (0, 2, 0) ∗ land I c (1, 1, 1) ∗ land I c (1, 2, 0) ∗ land I c (2, 0, 0) ∗ land I c (2, 1, 1)) ∗ (land I c (0, 0, 1) ∗ land I c (0, 1, 0) ∗ land I c (1, 0, 1) ∗ land I c (1, 1, 0) ∗ land I c (2, 1, 0) ∗ land I c (2, 2, 1)) ∗ (land I c (0, 0, 0) ∗ land I c (0, 2, 1) ∗ land I c (1, 0, 0) ∗ land I c (1, 2, 1) ∗ land I c (2, 0, 1) ∗ land I c (2, 2, 0))) ⊢ _
  iintro ⟨⟨H011, H020, H111, H120, H200, H211⟩, ⟨H001, H010, H101, H110, H210, H221⟩, ⟨H000, H021, H100, H121, H201, H220⟩⟩
  iframe

theorem last_eq (O : S1x1024x1024.Idx → F .f32) :
    (Q512 1 (part (dir (2, 2, 1)) c)).overlay ((Q512 0 (part (dir (2, 2, 0)) c)).overlay (O6 I c (O4 I c (O2 I c O)))
      (k0_pay1 (sub (R512 0 (part (dir (2, 2, 0)) c)) (gat I)))) (k0_pay2 (sub (R512 1 (part (dir (2, 2, 1)) c)) (gat I))) = result I c :=
  result_of_stores I c O

set_option maxHeartbeats 4000000 in
theorem body_run (W : Waits sig Unit) (O : S1x1024x1024.Idx → F .f32) :
    iprop(env I K ∗ scratch c
      ∗ (dutyTok ER (barCell (part 0 c)) 0 0 ∗ dutyTok ER (barCell (part 1 c)) 0 1 ∗ dutyTok ER (barCell (part 2 c)) 0 2)
      ∗ cred (tallyAt (barCell c) () 3) ∗ atPos ER (barCell c) 0 ∅ 0 ∗ owes (c : Thread nD τ) (owe₀ c) W
      ∗ bigSep Finset.univ (fun t => ready c t)
      ∗ own c xM (I c).x ∗ own c wqM (I c).wq ∗ own c kM (I c).k ∗ own c vM (I c).v ∗ own c woM (I c).wo ∗ own c outM O)
    ⊢ WP c (atArgs (cc0_body (F := F))) (fun _ => iprop(scratch c
      ∗ semVal (barCell c) 0 ∗ bigSep Finset.univ (fun t => done c t) ∗ owing c 18
      ∗ own c xM (I c).x ∗ own c wqM (I c).wq ∗ own c kM (I c).k ∗ own c vM (I c).v ∗ own c woM (I c).wo ∗ own c outM (result I c))) := by
  simp only [cc0_body_eq_skeleton]; unfold cc0_body_skel
  rw [all_xfers, all_xfers]
  unfold scratch
  iintro ⟨#He, ⟨HaccA, HaccB, Hctx, Hgath, HstA0, HstA1, HstB0, HstB1, Hv8, Hv9, Hv10, Hv11, Hv12, Hv13, Hv14, Hv15, Hv16, Hv17, Hv18, Hv19⟩, Htok, Hcr, Hat, HO, ⟨Hr000, Hr001, Hr010, Hr011, Hr020, Hr021, Hr100, Hr101, Hr110, Hr111, Hr120, Hr121, Hr200, Hr201, Hr210, Hr211, Hr220, Hr221⟩, HxM, HwqM, HkM, HvM, HwoM, HoutM⟩
  ihave Hreg := (regions_open c) $$ Hgath; icases Hreg with ⟨Hreg0, Hreg1, HRgath⟩
  unfold regions
  icases Hreg0 with ⟨Hg0, Hp00, Hp10, Hp20⟩
  icases Hreg1 with ⟨Hg1, Hp01, Hp11, Hp21⟩
  ihave Hpay := (pays I c) $$ [Hv8 Hv11 Hv9 Hv12 Hv10 Hv13 Hv14 Hv17 Hv15 Hv18 Hv16 Hv19 Hp00 Hp01 Hp10 Hp11 Hp20 Hp21]
  · iframe
  iapply (seq (part1 I K c W)) $$ [Hpay Htok Hcr Hat HO HxM HwqM]
  · iframe; iexact He
  iintro %r ⟨%h, Hpay, Hz, HO, HxM, HwqM⟩
  obtain ⟨a1_0, a1_1, a1_2, a1_3, a1_4, a1_5⟩ := r
  dsimp only at h
  obtain ⟨h0, h1, h2, h3⟩ := h; replace h0 := h0.symm; subst h0; subst h1; subst h2; subst h3
  ihave Hpay := (paid I c) $$ Hpay; icases Hpay with ⟨Hl000, Hl001, Hl010, Hl011, Hl020, Hl021, Hl100, Hl101, Hl110, Hl111, Hl120, Hl121, Hl200, Hl201, Hl210, Hl211, Hl220, Hl221⟩
  ihave Hctx := (any_open c) $$ Hctx; icases Hctx with ⟨%G, Hctx⟩
  iapply (seq (part2 I c G)) $$ [HkM HvM Hctx]
  · iframe
  iintro %r ⟨%h, HkM, HvM, Hctx⟩
  obtain ⟨a2_0, a2_1, a2_2⟩ := r
  dsimp only at h
  obtain ⟨h0, h1, h2⟩ := h; subst h0; subst h1; subst h2
  iapply (seq (part3 I c (putHead I c 0 G))) $$ [HkM HvM Hctx]
  · iframe
  iintro %r ⟨%h, HkM, HvM, Hctx⟩
  obtain ⟨a3_0, a3_1, a3_2⟩ := r
  dsimp only at h
  obtain ⟨h0, h1, h2⟩ := h; subst h0; subst h1; subst h2
  iapply (seq (part4 I c (putHead I c 1 (putHead I c 0 G)))) $$ [HkM HvM Hctx]
  · iframe
  iintro %r ⟨%h, HkM, HvM, Hctx⟩
  subst h
  iapply (seq (part5 I c _ (putHead I c 2 (putHead I c 1 (putHead I c 0 G))) (ctx_of_stores (I c) 0 0 1 2 3 rfl rfl rfl rfl G))) $$ [HwoM Hctx HaccA HstA0]
  · iframe
  iintro %r ⟨%h, HwoM, Hctx, HaccA, HstA0, HRstA0⟩
  obtain ⟨a5_0, a5_1, a5_2, a5_3, a5_4⟩ := r
  dsimp only at h
  subst h
  iapply (seq (part6 I K c _ _ _ _)) $$ [HstA0 Hl000 Hr000 Hl001 Hr001 HO HaccA HstA1 HkM HvM]
  · iframe; iexact He
  iintro %r ⟨%h, Ht000, Ht001, HO, HaccA, HRstA1, HkM, HvM⟩
  obtain ⟨a6_0, a6_1, a6_2, a6_3, a6_4⟩ := r
  dsimp only at h
  obtain ⟨h0, h1⟩ := h; subst h0; subst h1
  iapply (seq (part7 I K c _ (putHead I c 3 (putHead I c 2 (putHead I c 1 (putHead I c 0 G)))))) $$ [Hctx Ht000 HO HRstA0]
  · iframe; iexact He
  iintro %r ⟨Hctx, HstA0, Ht000, HO, Hv8⟩
  iapply (seq (part8 I K c _ _ _ _)) $$ [Ht001 HO HRstA1 Hv8 HaccA]
  · iframe; iexact He
  iintro %r ⟨%h, HstA1, Ht001, HO, Hv8, Hv11, HaccA⟩
  obtain ⟨a8_0, a8_1, a8_2⟩ := r
  dsimp only at h
  subst h
  iapply (seq (part9 I K c _ _ _ _ _)) $$ [HstA0 Hl010 Hr010 HO HaccA HstA1]
  · iframe; iexact He
  iintro %r ⟨HRstA0, Ht010, HO, HaccA, HstA1, HRstA1⟩
  obtain ⟨a9_0, a9_1, a9_2⟩ := r
  iapply (seq (part10 I K c _ _ (putHead I c 4 (putHead I c 3 (putHead I c 2 (putHead I c 1 (putHead I c 0 G))))))) $$ [HstA1 Hl011 Hr011 HO HkM HvM Hctx Ht010 HRstA0]
  · iframe; iexact He
  iintro %r ⟨Ht011, HO, HkM, HvM, Hctx, Ht010, HstA0⟩
  iapply (seq (part11 I K c _ _ _ _)) $$ [Ht010 Ht011 HO HRstA1 HaccA]
  · iframe; iexact He
  iintro %r ⟨%h, Ht010, Ht011, HO, HstA1, Hv9, Hv12, HaccA⟩
  subst h
  iapply (seq (part12 I K c _ _ _)) $$ [HaccA HstA0 Hl020 Hr020 HO]
  · iframe; iexact He
  iintro %r ⟨%h, HaccA, HRstA0, Ht020, HO⟩
  obtain ⟨a12_0, a12_1, a12_2, a12_3, a12_4⟩ := r
  dsimp only at h
  subst h
  iapply (seq (part13 I K c _ _ _)) $$ [HstA1 Hl021 Hr021 HO HkM HvM]
  · iframe; iexact He
  iintro %r ⟨%h, HRstA1, Ht021, HO, HkM, HvM⟩
  obtain ⟨a13_0, a13_1⟩ := r
  dsimp only at h
  subst h
  iapply (seq (part14 I K c (putHead I c 5 (putHead I c 4 (putHead I c 3 (putHead I c 2 (putHead I c 1 (putHead I c 0 G)))))))) $$ [Hctx HkM HvM Ht020 HO HRstA0]
  · iframe; iexact He
  iintro %r ⟨Hctx, HkM, HvM, Ht020, HstA0, HO⟩
  iapply (seq (part15 I K c _ _ _ _)) $$ [Ht020 Ht021 HO HRstA1 HaccA]
  · iframe; iexact He
  iintro %r ⟨%h, Ht020, Ht021, HO, HstA1, Hv10, Hv13, HaccA⟩
  obtain ⟨a15_0, a15_1⟩ := r
  dsimp only at h
  obtain ⟨h0, h1⟩ := h; subst h0; subst h1
  iapply (seq (part16 I K c _ _ (putHead I c 7 (putHead I c 6 (putHead I c 5 (putHead I c 4 (putHead I c 3 (putHead I c 2 (putHead I c 1 (putHead I c 0 G)))))))) (ctx_of_stores (I c) 1 4 5 6 7 rfl rfl rfl rfl (putHead I c 3 (putHead I c 2 (putHead I c 1 (putHead I c 0 G))))))) $$ [HaccA Hctx HaccB HstB0 Hl100 Hr100 HO]
  · iframe; iexact He
  iintro %r ⟨HaccA, Hctx, HaccB, HRstB0, Ht100, HO⟩
  obtain ⟨a16_0, a16_1, a16_2, a16_3⟩ := r
  iapply (seq (part17 I K c _ _ _ _ _)) $$ [HaccB HstB1 Hl101 Hr101 HO Ht100 HRstB0]
  · iframe; iexact He
  iintro %r ⟨HaccB, HRstB1, Ht101, HO, Ht100, HstB0⟩
  obtain ⟨a17_0, a17_1, a17_2, a17_3⟩ := r
  iapply (seq (part18 I K c _ _ _ _)) $$ [Ht100 Ht101 HO HRstB1 HaccB]
  · iframe; iexact He
  iintro %r ⟨%h, Ht100, Ht101, HO, HstB1, Hv14, Hv17, HaccB⟩
  subst h
  iapply (seq (part19 I K c _ _ _)) $$ [HaccB HstB0 Hl110 Hr110 HO HstB1]
  · iframe; iexact He
  iintro %r ⟨%h, HaccB, HRstB0, Ht110, HO, HstB1⟩
  obtain ⟨a19_0, a19_1, a19_2, a19_3, a19_4⟩ := r
  dsimp only at h
  subst h
  iapply (seq (part20 I K c _ _ _ _)) $$ [HstB1 Hl111 Hr111 HO Ht110 HRstB0]
  · iframe; iexact He
  iintro %r ⟨Ht111, Ht110, HO, HstB0, HstB1, Hv15⟩
  iapply (seq (part21 I K c _ _ _ _)) $$ [Ht111 HO HaccB Hv15 HstB0]
  · iframe; iexact He
  iintro %r ⟨Ht111, HO, Hv15, Hv18, HaccB, HstB0, HRstB0⟩
  obtain ⟨a21_0, a21_1⟩ := r
  iapply (seq (part22 I K c _ _ _ _ _)) $$ [HstB0 Hl120 Hr120 HO HaccB HstB1 Hl121 Hr121]
  · iframe; iexact He
  iintro %r ⟨Ht120, Ht121, HO, HaccB, HRstB1⟩
  obtain ⟨a22_0, a22_1, a22_2⟩ := r
  iapply (seq (part23 I K c _ _ _)) $$ [Ht120 Ht121 HO HRstB0 HRstB1 HaccB]
  · iframe; iexact He
  iintro %r ⟨%h, Ht120, Ht121, HO, HstB0, HstB1, Hv16, Hv19, HaccB⟩
  obtain ⟨a23_0, a23_1⟩ := r
  dsimp only at h
  subst h
  iapply (seq (part24 I c _ _ _ _ O)) $$ [HaccB Hv19 HaccA HoutM Hg0 Hg1]
  · iframe
  iintro %r ⟨%h, Hv19, HaccB, HaccA, HoutM, Hg0, Hg1⟩
  obtain ⟨a24_0, a24_1⟩ := r
  dsimp only at h
  subst h
  iapply (seq (part25 I K c _ _ _)) $$ [Hg1 Hg0 Hl200 Hr200 HO]
  · iframe; iexact He
  iintro %r ⟨Hg1, Ht200, HO⟩
  obtain ⟨a25_0, a25_1, a25_2, a25_3⟩ := r
  iapply (seq (part26 I K c _ _)) $$ [Hg1 Hl201 Hr201 HO Ht200]
  · iframe; iexact He
  iintro %r ⟨Hg0, Hp00, Hg1, Ht200, Ht201, HO⟩
  iapply (seq (part27 I K c _ _ _ (O2 I c O))) $$ [Ht201 HO Hg0 Hp00 HoutM Hl210 Hr210]
  · iframe; iexact He
  iintro %r ⟨Ht201, Hp01, HoutM, Ht210, HO⟩
  obtain ⟨a27_0, a27_1, a27_2, a27_3⟩ := r
  iapply (seq (part28 I K c _ _ _ _)) $$ [Hg1 Hp01 Hl211 Hr211 HO Ht210]
  · iframe; iexact He
  iintro %r ⟨Ht211, Ht210, Hg0, HO⟩
  iapply (seq (part29 I K c _ _ _ _ (O4 I c (O2 I c O)))) $$ [Ht210 Ht211 HO HoutM]
  · iframe; iexact He
  iintro %r ⟨Ht210, Ht211, Hp10, Hp11, Hg1, HoutM, HO⟩
  obtain ⟨a29_0, a29_1, a29_2⟩ := r
  iapply (seq (part30 I K c _ _ _ _ _)) $$ [Hg0 Hp10 Hl220 Hr220 HO]
  · iframe; iexact He
  iintro %r ⟨Ht220, HO⟩
  obtain ⟨a30_0, a30_1, a30_2⟩ := r
  iapply (seq (part31 I K c _ _ _)) $$ [Hg1 Hp11 Hl221 Hr221 HO Ht220]
  · iframe; iexact He
  iintro %r ⟨Ht220, Ht221, Hg0, Hp20, Hg1, Hp21, HO⟩
  simp only [Prog.lift, Prog.bind_op, Prog.bind_ret, Prog.pure_eq_ret]
  iapply (load_in c (h' := inb512 0 _) (off31_eq c)) $$ Hp20; iintro Hp20
  iapply (load_any c) $$ HoutM; iintro HoutM
  iapply (store_own c (h' := inb512' 0 _) (off32_eq c) _ rfl) $$ HoutM; iintro HoutM
  iapply (load_in c (h' := inb512 1 _) (off33_eq c)) $$ Hp21; iintro Hp21
  iapply (load_any c) $$ HoutM; iintro HoutM
  iapply (store_own c (h' := inb512' 1 _) (off34_eq c) _ rfl) $$ HoutM; iintro HoutM
  iapply ret
  ihave HoutM := (Entails.of_eq (congrArg (own c outM) (last_eq I c O))) $$ HoutM
  ihave Hgath := (regions_close I c) $$ [Hg0 Hp20 Hg1 Hp21 HRgath]
  · isplitl [Hg0 Hp20]
    · isplitl [Hg0]; · iexact Hg0
      iexact Hp20
    isplitl [Hg1 Hp21]
    · isplitl [Hg1]; · iexact Hg1
      iexact Hp21
    iexact HRgath
  ihave HaccA := (any_intro c) $$ HaccA
  ihave HaccB := (any_intro c) $$ HaccB
  ihave Hctx := (any_intro c) $$ Hctx
  iframe

end Cert.KernelIdeal.Run
-- ==== Proof.Tokens.lean ====
/-
# Tokens: the shared state the launch mints, and how it is dealt

A device has 37 cells (its barrier, and one at either end of each of its 18 transfers). The launch mints,
for each device, the three duty tokens of its barrier and one token for every other cell. A token goes
to the device that performs the duty: a partner of the cell's owner, for a barrier and for a receive cell.
-/
module

public import proofs.«01_k».proof.Proof.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-- The kernel's own semaphores: the two ends of every transfer. -/
abbrev osem (x : Bool × Xfer) : SemLoc sig := csem (some x)

theorem kcell_injective : Function.Injective kcell := fun x y h =>
  Prod.ext (congrArg (fun g : GSem nD τ sig => g.1.1) h) (csem_injective (congrArg Prod.snd h))

theorem kcell_eq_iff {x y : Dev nD × CK} : Iff (kcell x = kcell y) (x = y) := kcell_injective.eq_iff

/-! ## Products over the cells of a device -/

/-- A product over an option: the absent value's factor, and the others'. -/
theorem opt_split {α : Type} [Fintype α] [DecidableEq α] (Φ : Option α → sProp 𝕄) :
    bigSep Finset.univ Φ = iprop(Φ none ∗ bigSep Finset.univ fun a => Φ (some a)) := by
  rw [bigSep_univ_at _ none, show (Finset.univ.erase (none : Option α)) = Finset.univ.map Function.Embedding.some from by
    ext a; cases a <;> simp, bigSep_map]; rfl

/-- A product over both ends of the transfers. -/
theorem ends_split (Φ : Bool × Xfer → sProp 𝕄) :
    bigSep Finset.univ Φ = iprop((bigSep Finset.univ fun t => Φ (false, t)) ∗ bigSep Finset.univ fun t => Φ (true, t)) := by
  rw [bigSep_univ_prod, bigSep_univ_eq_bigSepL [false, true] (by decide) (by decide)]; rfl

/-! ## The tokens -/

/-- The duties at a device's own cells: the barrier's three, and one at every other cell. -/
abbrev TK : Type := Option (Option (Option (Bool × Xfer)))

def duty : TK → CK × Fin 3
  | none => (none, 0)
  | some none => (none, 1)
  | some (some none) => (none, 2)
  | some (some (some x)) => (some x, 0)

def undo : CK × Fin 3 → TK
  | (none, d) => ![none, some none, some (some none)] d
  | (some x, _) => some (some (some x))

theorem undo_duty (x : TK) : undo (duty x) = x := by rcases x with _ | _ | _ | x <;> rfl

def tokOf (y : Dev nD × TK) : GSem nD τ sig × ℕ × Fin 3 := (kcell (y.1, (duty y.2).1), 0, (duty y.2).2)

theorem tokOf_injective : Function.Injective tokOf := by
  rintro ⟨c, x⟩ ⟨c', x'⟩ h
  have h1 := kcell_injective (congrArg Prod.fst h)
  have h2 : (duty x).2 = (duty x').2 := congrArg (fun z : GSem nD τ sig × ℕ × Fin 3 => z.2.2) h
  have h3 : duty x = duty x' := Prod.ext (congrArg Prod.snd h1) h2
  have h4 : x = x' := by rw [← undo_duty x, h3, undo_duty]
  have h5 : c = c' := congrArg Prod.fst h1
  rw [h4, h5]

def meshCells : Finset (GSem nD τ sig) := Finset.univ.map ⟨kcell, kcell_injective⟩
def meshToks : Finset (GSem nD τ sig × ℕ × Fin 3) := Finset.univ.map ⟨tokOf, tokOf_injective⟩

/-- The tokens of device `c`'s own cells, -/
def toks (c : Dev nD) : sProp 𝕄 :=
  iprop(dutyTok ER (barCell c) 0 0 ∗ dutyTok ER (barCell c) 0 1 ∗ dutyTok ER (barCell c) 0 2
    ∗ (bigSep Finset.univ fun t => dutyTok ER (sendCell c t) 0 0) ∗ bigSep Finset.univ fun t => dutyTok ER (recvCell c t) 0 0)
/-- and those of the duties it performs. -/
def payToks (c : Dev nD) : sProp 𝕄 :=
  iprop(dutyTok ER (barCell (part 0 c)) 0 0 ∗ dutyTok ER (barCell (part 1 c)) 0 1 ∗ dutyTok ER (barCell (part 2 c)) 0 2
    ∗ (bigSep Finset.univ fun t => dutyTok ER (sendCell c t) 0 0) ∗ bigSep Finset.univ fun t => dutyTok ER (recvCell (part (dir t) c) t) 0 0)

/-- A device paired with the transfers it receives, matched with the device that sends each. -/
def across : Dev nD × Xfer ≃ Dev nD × Xfer :=
  ⟨fun x => (part (dir x.2) x.1, x.2), fun x => (part (dir x.2) x.1, x.2),
    fun x => Prod.ext (part_part _ _) rfl, fun x => Prod.ext (part_part _ _) rfl⟩

theorem recv_across : (bigSep Finset.univ fun c : Dev nD => bigSep Finset.univ fun t => (dutyTok ER (recvCell c t) 0 0 : sProp 𝕄))
    = bigSep Finset.univ fun c : Dev nD => bigSep Finset.univ fun t => dutyTok ER (recvCell (part (dir t) c) t) 0 0 := by
  rw [← bigSep_univ_prod (fun x : Dev nD × Xfer => (dutyTok ER (recvCell x.1 x.2) 0 0 : sProp 𝕄)),
    bigSep_univ_equiv across (fun x : Dev nD × Xfer => (dutyTok ER (recvCell x.1 x.2) 0 0 : sProp 𝕄)),
    bigSep_univ_prod]
  rfl

theorem toks_across : (bigSep Finset.univ fun c : Dev nD => (toks c : sProp 𝕄)) ⊢ bigSep Finset.univ fun c : Dev nD => payToks c := by
  unfold toks payToks
  simp only [bigSep_sep']
  rw [bigSep_univ_equiv (swap 0) (fun c : Dev nD => (dutyTok ER (barCell c) 0 0 : sProp 𝕄)),
    bigSep_univ_equiv (swap 1) (fun c : Dev nD => (dutyTok ER (barCell c) 0 1 : sProp 𝕄)),
    bigSep_univ_equiv (swap 2) (fun c : Dev nD => (dutyTok ER (barCell c) 0 2 : sProp 𝕄)), recv_across]
  exact Entails.of_eq rfl

/-! ## The launch's element and its share for a device -/

def u₀ : UU :=
  (initOf (Pipeline.cells cfgs cellOf_inj) (Pipeline.launchToks cfgs cellOf_inj), initOf meshCells meshToks)

def dealt (c : Dev nD) : sProp 𝕄 :=
  iprop((bigSep Finset.univ fun k : CK => roundState ER (Rd I) (kcell (c, k)) 0)
    ∗ (bigSep Finset.univ fun k : CK => atPos ER (kcell (c, k)) 0 ∅ 0)
    ∗ (bigSep Finset.univ fun k : CK => reached ER (kcell (c, k)) 0) ∗ toks c)

theorem cells_eq (Φ : GSem nD τ sig → sProp 𝕄) :
    bigSep meshCells Φ = bigSep Finset.univ fun c : Dev nD => bigSep Finset.univ fun k : CK => Φ (kcell (c, k)) := by
  unfold meshCells; rw [bigSep_map, bigSep_univ_prod]; rfl

theorem toks_eq : bigSep meshToks (fun x => (dutyTok ER x.1 x.2.1 x.2.2 : sProp 𝕄)) = bigSep Finset.univ fun c : Dev nD => toks c := by
  unfold meshToks; rw [bigSep_map, bigSep_univ_prod]
  exact bigSep_congr fun c _ => by unfold toks; rw [opt_split, opt_split, opt_split, ends_split]; rfl

theorem fund_mesh : BI.own (ER (initOf meshCells meshToks)) ⊢ (|==> bigSep Finset.univ (dealt I) : sProp 𝕄) := by
  iintro HX
  imod (Rounds.fund ER (Rd I) meshCells meshToks) $$ HX with ⟨Hst, Hr, Hat, Htok⟩
  imodintro
  ihave Hst' := (Entails.of_eq (cells_eq fun g => roundState ER (Rd I) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold dealt; simp only [bigSep_sep']
  isplitl [Hst']; · iexact Hst'
  isplitl [Hat']; · iexact Hat'
  isplitl [Hr'] <;> iassumption

/-! ## The semaphores -/

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun t => done c t := by
  unfold Pipeline.ownSems0 done
  rw [bigSep_sep', ends_split]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [opt_split, ends_split, ownSems0_eq, unscopedSems0_eq]
  unfold done
  rw [bigSep_sep']
  iintro ⟨⟨HS, HV⟩, HB⟩
  isplitl [HB]; · iexact HB
  isplitl [HS]; · iexact HS
  iexact HV

/-! ## The shared state of the run -/

/-- What device `c` has of it when its body starts. -/
def linear (c : Dev nD) : sProp 𝕄 :=
  iprop((bigSep Finset.univ fun k : CK => atPos ER (kcell (c, k)) 0 ∅ 0) ∗ payToks c)

def shared (c : Dev nD) : sProp 𝕄 := iprop(∃ K, records I K ∗ linear c)

theorem core_alloc (c : Dev nD) :
    iprop(Pipeline.ownSems0 (Ix := Unit) (Name := ℕ) (U := UU) (Lvl := ℕ) (Val := Elt F) (τ := τ) osem c ∗ unscopedSems0 c ∗ dealt I c)
      ⊢ |={Set.univ}=> iprop((bigSep Finset.univ fun k : CK => iprop(∃ κ : ℕ, cellInv ER (Rd I) κ (kcell (c, k))))
          ∗ (bigSep Finset.univ fun k : CK => atPos ER (kcell (c, k)) 0 ∅ 0)
          ∗ (bigSep Finset.univ fun k : CK => reached ER (kcell (c, k)) 0) ∗ toks c) := by
  unfold dealt
  iintro ⟨Hos, Hus, Hst, Hat, Hr, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  iframe

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd I) κ (kcell (c, k))))
          ∗ (bigSep Finset.univ fun k : CK => atPos ER (kcell (c, k)) 0 ∅ 0)
          ∗ (bigSep Finset.univ fun k : CK => reached ER (kcell (c, k)) 0) ∗ toks c) : sProp 𝕄)
      ⊢ bigSep Finset.univ (shared I) := by
  simp only [bigSep_sep']
  rw [← bigSep_univ_prod (fun x : Dev nD × CK => iprop(∃ κ : ℕ, cellInv ER (Rd I) κ (kcell x))),
    ← bigSep_univ_prod (fun x : Dev nD × CK => (reached ER (kcell x) 0 : sProp 𝕄))]
  iintro ⟨HI, Hat, #HR, Htok⟩
  ihave HK := (BI.bigSep_exists_pi Finset.univ (fun (x : Dev nD × CK) (κ : ℕ) => (cellInv ER (Rd I) κ (kcell x) : sProp 𝕄))) $$ HI
  icases HK with ⟨%K, #HI⟩
  ihave Htk := (toks_across (F := F)) $$ Htok
  iapply (with_persistent (R := records I K) (Φ := linear) fun c _ => show _ ⊢ shared I c from by
    unfold shared; iintro H; iexists K; iexact H)
  isplitr
  · unfold records; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt I c) : sProp 𝕄)
    ⊢ |={Set.univ}=> bigSep Finset.univ (shared I) :=
  ((bigSep_mono fun c _ => core_alloc I c).trans (bigSep_fupd _ _)).trans (BI.fupd_mono (regroup I))

/-! ## The credit the launch mints -/

theorem owe_apply (d : Dev nD) (g : GSem nD τ sig) : owe d 0 g () = ∑ u, due d u g () := by
  unfold owe
  rw [Finset.filter_true_of_mem fun _ _ => Nat.zero_le _, Finset.sum_apply, Finsupp.finset_sum_apply]

theorem bar_at (j : Fin 3) (d c : Dev nD) :
    (tallyAt (barCell (part j d)) () 1 : CellTallies nD τ sig Unit) (barCell c) () = if d = part j c then 1 else 0 := by
  rw [tallyAt_apply]
  refine if_congr ⟨fun h => ?_, fun h => ⟨?_, rfl⟩⟩ rfl rfl
  · have := congrArg Prod.fst (kcell_injective (a₁ := (c, none)) (a₂ := (part j d, none)) h.1)
    have : c = part j d := this
    rw [this, part_part]
  · rw [h, part_part]

theorem none_at {x y : Dev nD × CK} (h : x ≠ y) (k : ℕ) : (tallyAt (kcell y) () k : CellTallies nD τ sig Unit) (kcell x) () = 0 := by
  rw [tallyAt_ne_cell (fun e => h (kcell_injective e))]; rfl

theorem owed_bar (d c : Dev nD) : owe₀ d (barCell c) ()
    = (if d = part 2 c then 1 else 0) + (if d = part 1 c then 1 else 0) + (if d = part 0 c then 1 else 0) := by
  unfold owe₀
  simp only [Pi.add_apply, Finsupp.add_apply]
  rw [bar_at, bar_at, bar_at, owe_apply, Finset.sum_eq_zero fun u _ => ?_, Nat.zero_add]
  exact none_at (x := (c, none)) (y := (part (dir u) d, some (true, u))) (fun h => by cases congrArg Prod.snd h) _

theorem owed_recv (d c : Dev nD) (t : Xfer) : owe₀ d (recvCell c t) () = if d = part (dir t) c then credit t else 0 := by
  have hb (j : Fin 3) : (tallyAt (barCell (part j d)) () 1 : CellTallies nD τ sig Unit) (recvCell c t) () = 0 :=
    none_at (x := (c, some (true, t))) (y := (part j d, none)) (fun h => by cases congrArg Prod.snd h) _
  unfold owe₀
  simp only [Pi.add_apply, Finsupp.add_apply]
  rw [hb, hb, hb, Nat.add_zero, owe_apply, Finset.sum_eq_single t]
  · rw [tallyAt_apply]
    refine if_congr ⟨fun h => ?_, fun h => ⟨?_, rfl⟩⟩ rfl rfl
    · have : c = part (dir t) d := congrArg Prod.fst (kcell_injective (a₁ := (c, some (true, t))) (a₂ := (part (dir t) d, some (true, t))) h.1)
      rw [this, part_part]
    · rw [h, part_part]
  · intro u _ hu
    exact none_at (x := (c, some (true, t))) (y := (part (dir u) d, some (true, u)))
      (fun h => hu (congrArg Prod.snd (Option.some.inj (congrArg Prod.snd h))).symm) _
  · exact fun h => absurd (Finset.mem_univ _) h

theorem launch_bar (c : Dev nD) :
    tallyOn (barCell c) (launchCredit (Pipeline.owing owe₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (part 2 c) fun _ => 1, Finset.sum_ite_eq' Finset.univ (part 1 c) fun _ => 1,
    Finset.sum_ite_eq' Finset.univ (part 0 c) fun _ => 1, if_pos (Finset.mem_univ _), if_pos (Finset.mem_univ _), if_pos (Finset.mem_univ _)]

theorem launch_recv (c : Dev nD) (t : Xfer) :
    tallyOn (recvCell c t) (launchCredit (Pipeline.owing owe₀) 0 (recvCell c t)) = (tallyAt (recvCell c t) () (credit t) : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (part (dir t) c) fun _ => credit t, if_pos (Finset.mem_univ _)]

theorem creds (c : Dev nD) :
    (Pipeline.launchCred owe₀ c : sProp 𝕄) ⊢ iprop(cred (tallyAt (barCell c) () 3) ∗ bigSep Finset.univ fun t => cred (tallyAt (recvCell c t) () (credit t))) := by
  unfold Pipeline.launchCred
  rw [bigSep_univ_at _ (SemLoc.reg barS), launch_bar]
  refine sep_mono_right ?_
  simp only [← launch_recv]
  rw [show (bigSep Finset.univ fun t : Xfer => (cred (tallyOn (recvCell c t) (launchCredit (Pipeline.owing owe₀) 0 (recvCell c t))) : sProp 𝕄))
      = bigSep (Finset.univ.map ⟨fun t : Xfer => csem (some (true, t)), fun a b h => congrArg Prod.snd (Option.some.inj (csem_injective h))⟩)
        (fun sm => cred (tallyOn ((c : Thread nD τ), sm) (launchCredit (Pipeline.owing owe₀) 0 ((c : Thread nD τ), sm)))) from by
      rw [bigSep_map]; rfl]
  refine bigSep_subset fun sm h => ?_
  obtain ⟨t, -, rfl⟩ := Finset.mem_map.mp h
  exact Finset.mem_erase.mpr ⟨fun h => (by cases csem_injective (a₁ := some (true, t)) (a₂ := none) h), Finset.mem_univ _⟩

end Cert.KernelIdeal.Run

end
-- ==== Proof.Launch.lean ====
/-
# Launch: the whole mesh

Every device is given its share of the tokens, runs the body once and closes its cells. From the body's
run follows the run of `main`: it terminates without a fault, every result array holds `result`, the
arguments what they held, and every semaphore counter is zero. All of it for any float values.
-/
module

public import proofs.«01_k».proof.Proof.Tokens
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (b : Loc nD τ sig) → Buf (Elt F) b) (ρ : Dev nD → PrngReg)

/-- The memory the launch starts from: `m`, every counter at zero. -/
abbrev s₀ : MemSt nD τ sig (Elt F) := ⟨m, fun _ => 0, ρ⟩

/-- The blocks device `c` computes on. -/
def inp (c : Dev nD) : In F where
  x := (win0_0.blk t0_0).view.read (Elt F) (m ((c : Thread nD τ).loc main_arg0))
  wq := (win0_1.blk t0_0).view.read (Elt F) (m ((c : Thread nD τ).loc main_arg1))
  k := (win0_2.blk t0_0).view.read (Elt F) (m ((c : Thread nD τ).loc main_arg2))
  v := (win0_3.blk t0_0).view.read (Elt F) (m ((c : Thread nD τ).loc main_arg3))
  wo := (win0_4.blk t0_0).view.read (Elt F) (m ((c : Thread nD τ).loc main_arg4))

/-! ## What the body is given and what it leaves -/

def start (c : Dev nD) : sProp 𝕄 :=
  iprop(shared (inp m) c ∗ cred (tallyAt (barCell c) () 3) ∗ (bigSep Finset.univ fun t => cred (tallyAt (recvCell c t) () (credit t))) ∗ levAts L lv)

def Φ₀ (c : Dev nD) : sProp 𝕄 := iprop(start m c ∗ scratch c)
def Φ₁ (c : Dev nD) : sProp 𝕄 := iprop(scratch c ∗ semVal (barCell c) 0 ∗ bigSep Finset.univ fun t => done c t)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).k
    | ⟨3, _⟩ => (inp m c).v
    | ⟨4, _⟩ => (inp m c).wo
    | ⟨5, _⟩ => result (inp m) c
  Φ t := match t with
    | ⟨0, _⟩ => Φ₀ m c
    | ⟨_ + 1, _⟩ => Φ₁ c
  q _ := fullShare
  owed t := match t with
    | ⟨0, _⟩ => owe₀ c
    | ⟨_ + 1, _⟩ => 0

/-! ## The body, as the launch asks for it -/

/-- The two ends of a transfer, made ready. -/
theorem ready_intro (c : Dev nD) :
    iprop((bigSep Finset.univ fun k : CK => atPos ER (kcell (c, k)) 0 ∅ 0) ∗ payToks c
      ∗ (bigSep Finset.univ fun t => cred (tallyAt (recvCell c t) () (credit t))))
    ⊢ (iprop((dutyTok ER (barCell (part 0 c)) 0 0 ∗ dutyTok ER (barCell (part 1 c)) 0 1 ∗ dutyTok ER (barCell (part 2 c)) 0 2)
      ∗ atPos ER (barCell c) 0 ∅ 0 ∗ bigSep Finset.univ fun t => ready c t) : sProp 𝕄) := by
  rw [opt_split, ends_split]
  unfold ready payToks
  simp only [bigSep_sep']
  iintro ⟨⟨HaB, HaS, HaR⟩, ⟨H0, H1, H2, HtS, HtR⟩, Hcr⟩
  isplitl [H0 H1 H2]; · iframe
  isplitl [HaB]; · iexact HaB
  isplitl [HtS]; · iexact HtS
  isplitl [HtR]; · iexact HtR
  isplitl [HaS]; · iexact HaS
  isplitl [HaR]; · iexact HaR
  iexact Hcr

theorem body_phi (c : Dev nD) (W : Waits sig Unit) (O : S1x1024x1024.Idx → F .f32) :
    iprop(Φ₀ m c ∗ owes (c : Thread nD τ) (owe₀ c) W
      ∗ own c xM (inp m c).x ∗ own c wqM (inp m c).wq ∗ own c kM (inp m c).k ∗ own c vM (inp m c).v ∗ own c woM (inp m c).wo ∗ own c outM O)
    ⊢ WP c (atArgs (cc0_body (F := F))) (fun _ => iprop(Φ₁ c ∗ owing c 18
      ∗ own c xM (inp m c).x ∗ own c wqM (inp m c).wq ∗ own c kM (inp m c).k ∗ own c vM (inp m c).v ∗ own c woM (inp m c).wo ∗ own c outM (result (inp m) c))) := by
  unfold Φ₀ start shared linear
  iintro ⟨⟨⟨⟨%K, #HR, HL⟩, Hcb, Hcr, #Hlev⟩, Hscr⟩, HO, Hx, Hwq, Hk, Hv, Hwo, Hout⟩
  icases HL with ⟨Hat, Htok⟩
  ihave Hrd := (ready_intro (F := F) c) $$ [Hat Htok Hcr]
  · iframe
  icases Hrd with ⟨Htk, HaB, Hready⟩
  iapply ((body_run (inp m) K c W O).trans (wp_mono frame (wpE (defs₀ (F := F)) 𝒱₀ (c : Thread nD τ) none) Set.univ (fun _ => by
    iintro ⟨H1, H2, H3, H4⟩
    isplitl [H1 H2 H3]
    · unfold Φ₁; iframe
    iexact H4)))
  isplitr
  · unfold env; isplitl; · iexact HR
    iexact Hlev
  iframe

theorem before_x (c : Dev nD) (d) : (dats m ρ 0 c).before 0 t0_0 d = (inp m c).x := by
  unfold Dat.before; rw [if_pos (fetch0_0 t0_0)]; rfl
theorem before_wq (c : Dev nD) (d) : (dats m ρ 0 c).before 1 t0_0 d = (inp m c).wq := by
  unfold Dat.before; rw [if_pos (fetch0_1 t0_0)]; rfl
theorem before_k (c : Dev nD) (d) : (dats m ρ 0 c).before 2 t0_0 d = (inp m c).k := by
  unfold Dat.before; rw [if_pos (fetch0_2 t0_0)]; rfl
theorem before_v (c : Dev nD) (d) : (dats m ρ 0 c).before 3 t0_0 d = (inp m c).v := by
  unfold Dat.before; rw [if_pos (fetch0_3 t0_0)]; rfl
theorem before_wo (c : Dev nD) (d) : (dats m ρ 0 c).before 4 t0_0 d = (inp m c).wo := by
  unfold Dat.before; rw [if_pos (fetch0_4 t0_0)]; rfl

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  show iprop(Φ₀ m c ∗ (dats m ρ 0 c).owesAt () t0_0.castSucc
      ∗ (∃ d, own c xM ((dats m ρ 0 c).before 0 t0_0 d)) ∗ (∃ d, own c wqM ((dats m ρ 0 c).before 1 t0_0 d))
      ∗ (∃ d, own c kM ((dats m ρ 0 c).before 2 t0_0 d)) ∗ (∃ d, own c vM ((dats m ρ 0 c).before 3 t0_0 d))
      ∗ (∃ d, own c woM ((dats m ρ 0 c).before 4 t0_0 d)) ∗ (∃ d, own c outM ((dats m ρ 0 c).before 5 t0_0 d)))
    ⊢ WP c (atArgs (cc0_body (F := F))) (fun _ => iprop(Φ₁ c ∗ (dats m ρ 0 c).owesAt () t0_0.succ
      ∗ own c xM (inp m c).x ∗ own c wqM (inp m c).wq ∗ own c kM (inp m c).k ∗ own c vM (inp m c).v ∗ own c woM (inp m c).wo ∗ own c outM (result (inp m) c)))
  unfold Dat.owesAt Pipeline.owesWithin
  rw [show (dats m ρ 0 c).owed t0_0.castSucc = owe₀ c from rfl, show (dats m ρ 0 c).owed t0_0.succ = 0 from rfl]
  iintro ⟨HΦ, ⟨%W, -, HO⟩, ⟨%d0, Hx⟩, ⟨%d1, Hwq⟩, ⟨%d2, Hk⟩, ⟨%d3, Hv⟩, ⟨%d4, Hwo⟩, ⟨%d5, Hout⟩⟩
  rw [before_x, before_wq, before_k, before_v, before_wo]
  iapply ((body_phi m c W _).trans (wp_mono frame (wpE (defs₀ (F := F)) 𝒱₀ (c : Thread nD τ) none) Set.univ (fun _ => by
    unfold owing; rw [owe_end]
    iintro ⟨H1, ⟨%W', HO⟩, H4⟩
    isplitl [H1]; · iexact H1
    isplitl [HO]
    · iexists W'; isplitr; · ipureintro; exact fun _ _ => Or.inl trivial
      iexact HO
    iexact H4)))
  iframe

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ shared (inp m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem any_pts (c : Dev nD) {s : Shape} {e : EltTy} {b : Memref sig .tc .vmem s e} {P : (s.Idx → Elt F e) → sProp 𝕄}
    (h : ∀ X, own c b X = P X) : (any c b : sProp 𝕄) = iprop(∃ X, P X) := by
  unfold any; simp only [h]

theorem scratch_eq (c : Dev nD) : (Pipeline.scopedRest cfg0.spec c : sProp 𝕄) = scratch c := by
  rw [scopedRest0_eq]; unfold scratch
  refine congrArg₂ BIBase.sep (any_pts c (b := Memref.whole cc0_scratch0) (owns_whole (c : Thread nD τ) cc0_scratch0 fullShare)).symm ?_
  refine congrArg₂ BIBase.sep (any_pts c (b := Memref.whole cc0_scratch1) (owns_whole (c : Thread nD τ) cc0_scratch1 fullShare)).symm ?_
  refine congrArg₂ BIBase.sep (any_pts c (b := Memref.whole cc0_scratch2) (owns_whole (c : Thread nD τ) cc0_scratch2 fullShare)).symm ?_
  refine congrArg₂ BIBase.sep (any_pts c (b := Memref.whole cc0_scratch3) (owns_whole (c : Thread nD τ) cc0_scratch3 fullShare)).symm ?_
  refine congrArg₂ BIBase.sep (any_pts c (b := Memref.whole cc0_scratch4) (owns_whole (c : Thread nD τ) cc0_scratch4 fullShare)).symm ?_
  refine congrArg₂ BIBase.sep (any_pts c (b := Memref.whole cc0_scratch5) (owns_whole (c : Thread nD τ) cc0_scratch5 fullShare)).symm ?_
  refine congrArg₂ BIBase.sep (any_pts c (b := Memref.whole cc0_scratch6) (owns_whole (c : Thread nD τ) cc0_scratch6 fullShare)).symm ?_
  refine congrArg₂ BIBase.sep (any_pts c (b := Memref.whole cc0_scratch7) (owns_whole (c : Thread nD τ) cc0_scratch7 fullShare)).symm ?_
  refine congrArg₂ BIBase.sep (any_pts c (b := Memref.whole cc0_scratch8) (owns_whole (c : Thread nD τ) cc0_scratch8 fullShare)).symm ?_
  refine congrArg₂ BIBase.sep (any_pts c (b := Memref.whole cc0_scratch9) (owns_whole (c : Thread nD τ) cc0_scratch9 fullShare)).symm ?_
  refine congrArg₂ BIBase.sep (any_pts c (b := Memref.whole cc0_scratch10) (owns_whole (c : Thread nD τ) cc0_scratch10 fullShare)).symm ?_
  refine congrArg₂ BIBase.sep (any_pts c (b := Memref.whole cc0_scratch11) (owns_whole (c : Thread nD τ) cc0_scratch11 fullShare)).symm ?_
  refine congrArg₂ BIBase.sep (any_pts c (b := Memref.whole cc0_scratch12) (owns_whole (c : Thread nD τ) cc0_scratch12 fullShare)).symm ?_
  refine congrArg₂ BIBase.sep (any_pts c (b := Memref.whole cc0_scratch13) (owns_whole (c : Thread nD τ) cc0_scratch13 fullShare)).symm ?_
  refine congrArg₂ BIBase.sep (any_pts c (b := Memref.whole cc0_scratch14) (owns_whole (c : Thread nD τ) cc0_scratch14 fullShare)).symm ?_
  refine congrArg₂ BIBase.sep (any_pts c (b := Memref.whole cc0_scratch15) (owns_whole (c : Thread nD τ) cc0_scratch15 fullShare)).symm ?_
  refine congrArg₂ BIBase.sep (any_pts c (b := Memref.whole cc0_scratch16) (owns_whole (c : Thread nD τ) cc0_scratch16 fullShare)).symm ?_
  refine congrArg₂ BIBase.sep (any_pts c (b := Memref.whole cc0_scratch17) (owns_whole (c : Thread nD τ) cc0_scratch17 fullShare)).symm ?_
  refine congrArg₂ BIBase.sep (any_pts c (b := Memref.whole cc0_scratch18) (owns_whole (c : Thread nD τ) cc0_scratch18 fullShare)).symm ?_
  exact (any_pts c (b := Memref.whole cc0_scratch19) (owns_whole (c : Thread nD τ) cc0_scratch19 fullShare)).symm

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq]
  unfold Φ₁
  iintro ⟨Hr, Hb, Hd⟩
  isplitl [Hb]; · iexact Hb
  isplitl [Hd] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every fair execution of
    `main` terminates, and leaves each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := dealt (inp m)) (G' := shared (inp m)) (u₀ := u₀)
    (hu₀ := by
      unfold u₀
      iintro Hu
      ihave H := (ownU_pair _ _) $$ Hu
      icases H with ⟨HP, HX⟩
      imod (fund_mesh (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A window's array that is read holds what it held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

end Cert.KernelIdeal.Run

end
-- ==== Proof.Frames.lean ====
/-
# Frames: the two kernels run, keep their arguments, and leave every counter at zero
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem Cert.KernelIdeal.Run

/-- The mesh run, of any floats: the arguments are kept and every counter ends at zero. -/
theorem kept {F : FTy → Type} [FloatOps F] (m : (b : Loc Cert.KernelIdeal.nD Cert.KernelIdeal.τ Cert.KernelIdeal.sig) → Buf (Elt F) b)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => args_kept m ρ h.1 c, h.2⟩) (run_main (F := F) m ρ)

theorem frame_kernelIdeal : Cert.quiescent_KernelIdeal := fun m ρ _ => kept (F := Ideal) m ρ

/-- Both body tables are one: a label's body is the same program on every processor. -/
theorem defs₀_eq : (Cert.Kernel.defs₀ (F := Bits)) = Cert.KernelIdeal.defs₀ (F := Bits) := by
  funext p l a
  cases p with
  | tc =>
    revert a
    refine Fin.cases (fun a => ?_) (fun i => i.elim0) l
    obtain ⟨t, s⟩ := a
    rfl
  | scScalar _ => rfl
  | scVector _ _ => rfl

theorem defs_eq : (Cert.Kernel.defs (F := Bits)) = Cert.KernelIdeal.defs (F := Bits) :=
  congrArg (Pipeline.defs _) defs₀_eq

/-- The hardware kernel's text is the ideal kernel's, so its run is the run of `kept` at the floats' bits. -/
theorem frame_kernel : Cert.quiescent_Kernel := fun m ρ _ =>
  (congrArg (fun D => θ_run D (onTc (τ := Cert.KernelIdeal.τ) (Cert.KernelIdeal.main (F := Bits))) ⟨m, fun _ => 0, ρ⟩ _) defs_eq).mpr (kept (F := Bits) m ρ)

/-- The reference holds no semaphore: its counters are zero at the end because there are none. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
end
-- ==== Proof.SumValue.lean ====
/-
# SumValue: over the extended reals the reduce-scatter is a sum

Rounding changes nothing over the extended reals, so a round adds to what a device holds of the rows it keeps what
its partner holds of them; after three rounds these rows are the sum over all eight devices.
-/
module

public import proofs.«01_k».proof.Proof.Contents
public import Idealize.ShloMosaic.Lib.Pointwise

@[expose] public section

noncomputable section

namespace Cert.KernelIdeal.Run

open Cert.KernelIdeal Cert.KernelIdeal.Gen
open Idealize.ShloMosaic Idealize.ShloMosaic.TcCoe

/-- A round on the rectangle of either half: `R 0` and `R 1` share no element, and a half's new values are what is
    there plus `y`. -/
theorem round_at (R : Fin 2 → Rect S1024x1024) (hd : ∀ i, i ∈ (R 0).set → i ∉ (R 1).set) (X : S1024x1024.Idx → EReal)
    (y : (p : Fin 2) → (R p).shape.Idx → EReal) (f : Fin 2 → S1024x1024.Idx → EReal) (hy : ∀ p j, y p j = f p ((R p).emb j))
    (p : Fin 2) (i : S1024x1024.Idx) (hi : i ∈ (R p).set) :
    (R 1).overlay ((R 0).overlay X (fun j => X ((R 0).emb j) + y 0 j))
      (fun j => (R 0).overlay X (fun j => X ((R 0).emb j) + y 0 j) ((R 1).emb j) + y 1 j) i = X i + f p i := by
  obtain ⟨j, hj⟩ := (R p).exists_idx_of_mem hi
  replace hj : (R p).emb j = i := hj
  subst hj
  rw [← hy p j]
  clear hy f
  revert p
  refine Fin.forall_fin_two.2 ⟨fun j hi => ?_, fun j hi => ?_⟩
  · rw [Rect.overlay_of_not_mem _ _ _ (hd _ hi), Rect.overlay_emb]
  · rw [Rect.overlay_emb, Rect.overlay_of_not_mem _ _ _ (fun h => hd _ h hi)]

theorem mem_rows (p : Fin 2) (n : ℕ) (c : Dev nD) (m : ℕ) (inb : ∀ a, corner p n c a + (![m, 512] : Fin 2 → ℕ) a ≤ S1024x1024.size a)
    (i : S1024x1024.Idx) : i ∈ (Rect.unit (s := S1024x1024) (corner p n c) ![m, 512] inb).set
      ↔ (lo p n c ≤ (i 0).val ∧ (i 0).val < lo p n c + m) ∧ 512 * p.val ≤ (i 1).val ∧ (i 1).val < 512 * p.val + 512 := by
  rw [Rect.mem_set_unit]
  constructor
  · intro H; exact ⟨H 0, H 1⟩
  · rintro ⟨H₁, H₂⟩ a
    match a with
    | ⟨0, _⟩ => exact H₁
    | ⟨1, _⟩ => exact H₂

/-- The two halves' rows share no element. -/
theorem halves_disjoint (n : ℕ) (c : Dev nD) (m : ℕ) (inb : ∀ (p : Fin 2) a, corner p n c a + (![m, 512] : Fin 2 → ℕ) a ≤ S1024x1024.size a)
    (i : S1024x1024.Idx) (h : i ∈ (Rect.unit (s := S1024x1024) (corner 0 n c) ![m, 512] (inb 0)).set) :
    i ∉ (Rect.unit (s := S1024x1024) (corner 1 n c) ![m, 512] (inb 1)).set := by
  intro h'
  have h1 := ((mem_rows _ _ _ _ _ _).1 h).2.2
  have h2 := ((mem_rows _ _ _ _ _ _).1 h').2.1
  have h1 : (i 1).val < 512 * 0 + 512 := h1
  have h2 : 512 * 1 ≤ (i 1).val := h2
  omega

theorem pay22_eq (x : Vec Ideal S512x512 .f32) (y : Vec Ideal S512x512 .bf16) : k0_pay22 x y = fun j => (x j + y j : EReal) := by
  funext j; pointwise [k0_pay22]
theorem pay28_eq (x : Vec Ideal S256x512 .f32) (y : Vec Ideal S256x512 .bf16) : k0_pay28 x y = fun j => (x j + y j : EReal) := by
  funext j; pointwise [k0_pay28]
theorem pay37_eq (x : Vec Ideal S128x512 .f32) (y : Vec Ideal S128x512 .bf16) : k0_pay37 x y = fun j => (x j + y j : EReal) := by
  funext j; pointwise [k0_pay37]
theorem pay17_eq (x : Vec Ideal S512x512 .f32) : k0_pay17 x = x := by funext j; pointwise [k0_pay17]
theorem pay26_eq (x : Vec Ideal S256x512 .f32) : k0_pay26 x = x := by funext j; pointwise [k0_pay26]
theorem pay31_eq (x : Vec Ideal S128x512 .f32) : k0_pay31 x = x := by funext j; pointwise [k0_pay31]

variable (P : Dev nD → FVec Ideal S1024x1024 .f32)

/-- What arrives in the first round, -/
theorem s512_at (p : Fin 2) (c : Dev nD) (j : S512x512.Idx) :
    s512 P p (part (dir (0, 0, p)) c) j = P (part (dir (0, 0, p)) c) ((R512 p c).emb j) := by
  unfold s512; rw [part_part, pay17_eq]
/-- in the second -/
theorem s256_at (p : Fin 2) (c : Dev nD) (j : S256x512.Idx) :
    s256 P p (part (dir (0, 1, p)) c) j = X1 P (part (dir (0, 1, p)) c) ((R256 p c).emb j) := by
  unfold s256; rw [part_part, pay26_eq]
/-- and in the third. -/
theorem s128_at (p : Fin 2) (c : Dev nD) (j : S128x512.Idx) :
    s128 P p (part (dir (0, 2, p)) c) j = X2 P (part (dir (0, 2, p)) c) ((R128 p c).emb j) := by
  unfold s128; rw [part_part, pay31_eq]

/-- The rows kept, after the first round, -/
theorem X1_at (p : Fin 2) (c : Dev nD) (i : S1024x1024.Idx) (h : i ∈ (R512 p c).set) :
    X1 P c i = (P c i + P (part (dir (0, 0, p)) c) i : EReal) := by
  unfold X1 u512
  rw [pay22_eq, pay22_eq]
  exact round_at (fun p => R512 p c) (halves_disjoint 1 c 512 (fun p => inb512 p c)) (P c)
    (fun p => s512 P p (part (dir (0, 0, p)) c)) (fun p => P (part (dir (0, 0, p)) c)) (fun p => s512_at P p c) p i h
/-- the second -/
theorem X2_at (p : Fin 2) (c : Dev nD) (i : S1024x1024.Idx) (h : i ∈ (R256 p c).set) :
    X2 P c i = (X1 P c i + X1 P (part (dir (0, 1, p)) c) i : EReal) := by
  unfold X2 u256
  rw [pay28_eq, pay28_eq]
  exact round_at (fun p => R256 p c) (halves_disjoint 2 c 256 (fun p => inb256 p c)) (X1 P c)
    (fun p => s256 P p (part (dir (0, 1, p)) c)) (fun p => X1 P (part (dir (0, 1, p)) c)) (fun p => s256_at P p c) p i h
/-- and the third. -/
theorem X3_at (p : Fin 2) (c : Dev nD) (i : S1024x1024.Idx) (h : i ∈ (R128 p c).set) :
    X3 P c i = (X2 P c i + X2 P (part (dir (0, 2, p)) c) i : EReal) := by
  unfold X3 u128
  rw [pay37_eq, pay37_eq]
  exact round_at (fun p => R128 p c) (halves_disjoint 3 c 128 (fun p => inb128 p c)) (X2 P c)
    (fun p => s128 P p (part (dir (0, 2, p)) c)) (fun p => X2 P (part (dir (0, 2, p)) c)) (fun p => s128_at P p c) p i h

/-- The partners of a round keep the same rows until then. -/
theorem keep256 (p : Fin 2) (c c' : Dev nD) (hc : c' = c ∨ c' = part (dir (0, 2, p)) c) (i : S1024x1024.Idx) (h : i ∈ (R128 p c).set) :
    i ∈ (R256 p c').set := by
  have key : ∀ p c, (lo p 2 c ≤ lo p 3 c ∧ lo p 3 c + 128 ≤ lo p 2 c + 256) ∧ lo p 2 (part (dir (0, 2, p)) c) = lo p 2 c := by decide
  have hm := (mem_rows p 3 c 128 (inb128 p c) i).1 h
  obtain ⟨hk, hp⟩ := key p c
  refine (mem_rows p 2 c' 256 (inb256 p c') i).2 ?_
  rcases hc with rfl | rfl
  · omega
  · omega

theorem keep512 (p : Fin 2) (c c' : Dev nD) (hc : c' = c ∨ c' = part (dir (0, 1, p)) c) (i : S1024x1024.Idx) (h : i ∈ (R256 p c).set) :
    i ∈ (R512 p c').set := by
  have key : ∀ p c, (lo p 1 c ≤ lo p 2 c ∧ lo p 2 c + 256 ≤ lo p 1 c + 512) ∧ lo p 1 (part (dir (0, 1, p)) c) = lo p 1 c := by decide
  have hm := (mem_rows p 2 c 256 (inb256 p c) i).1 h
  obtain ⟨hk, hp⟩ := key p c
  refine (mem_rows p 1 c' 512 (inb512 p c') i).2 ?_
  rcases hc with rfl | rfl
  · omega
  · omega

/-- A device, its partner in the first round, these two's partners in the second and these four's in the third. -/
def reached (p : Fin 2) (c : Dev nD) : List (Dev nD) :=
  let a := part (dir (0, 0, p)); let b := part (dir (0, 1, p)); let d := part (dir (0, 2, p))
  [c, a c, b c, a (b c), d c, a (d c), b (d c), a (b (d c))]

/-- They are all eight devices. -/
theorem reached_perm (p : Fin 2) (c : Dev nD) : (reached p c).Perm (List.finRange 8) := by revert p c; decide

/-- So the rows a device is left with are the sum over the devices. -/
theorem X3_sum (p : Fin 2) (c : Dev nD) (i : S1024x1024.Idx) (h : i ∈ (R128 p c).set) : X3 P c i = (∑ c' : Dev nD, P c' i : EReal) := by
  have h2 := keep256 p c c (.inl rfl) i h
  have h2' := keep256 p c _ (.inr rfl) i h
  rw [X3_at P p c i h, X2_at P p c i h2, X2_at P p _ i h2', X1_at P p c i (keep512 p c c (.inl rfl) i h2),
    X1_at P p _ i (keep512 p c _ (.inr rfl) i h2), X1_at P p _ i (keep512 p _ _ (.inl rfl) i h2'),
    X1_at P p _ i (keep512 p _ _ (.inr rfl) i h2')]
  have hs : ((reached p c).map fun c' => (P c' i : EReal)).sum = ∑ c' : Dev nD, (P c' i : EReal) :=
    ((reached_perm p c).map _).sum_eq.trans (Fin.sum_univ_def _).symm
  rw [← hs]
  simp only [reached, List.map_cons, List.map_nil, List.sum_cons, List.sum_nil, add_zero]
  simp only [add_assoc]

/-- The reduced array: the sum of all the devices' two partial projections. -/
theorem reduced_sum (I : Dev nD → In Ideal) (i : S1024x1024.Idx) :
    reduced I i = (∑ c : Dev nD, (partA I c i + partB I c i) : EReal) := by
  have key : ∀ p k, lo p 3 (owner p k) = 128 * k.val := by decide
  have hi0 : (i 0).val < 1024 := (i 0).isLt
  have hi1 : (i 1).val < 1024 := (i 1).isLt
  have hl := key (halfOf i) (chunkOf i)
  have hl : lo (halfOf i) 3 (owner (halfOf i) (chunkOf i)) = 128 * ((i 0).val / 128) := hl
  have hh : (halfOf i).val = (i 1).val / 512 := rfl
  have hm : i ∈ (R128 (halfOf i) (owner (halfOf i) (chunkOf i))).set :=
    (mem_rows (halfOf i) 3 (owner (halfOf i) (chunkOf i)) 128 (inb128 _ _) i).2 (by omega)
  have he : (R128 (halfOf i) (owner (halfOf i) (chunkOf i))).emb (within i) = i := by
    funext a
    apply Fin.ext
    match a with
    | ⟨0, _⟩ =>
      show lo (halfOf i) 3 (owner (halfOf i) (chunkOf i)) + 1 * ((i 0).val % 128) = (i 0).val
      omega
    | ⟨1, _⟩ =>
      show 512 * (halfOf i).val + 1 * ((i 1).val % 512) = (i 1).val
      omega
  show (X3 (partA I) _ ((R128 _ _).emb (within i)) + X3 (partB I) _ ((R128 _ _).emb (within i)) : EReal) = _
  rw [he, X3_sum _ _ _ i hm, X3_sum _ _ _ i hm, Finset.sum_add_distrib]

/-- Over the extended reals every device's result is the reduced array. -/
theorem result_reduced (I : Dev nD → In Ideal) (c : Dev nD) (i : S1x1024x1024.Idx) :
    result I c i = reduced I (fun a => i a.succ) := by
  unfold result
  split
  · rfl
  · rfl

end Cert.KernelIdeal.Run

end
-- ==== Proof.Attn.lean ====
/-
# Attn: one entry of masked attention, over the extended reals

`keep r c` says whether row `r` may look at row `c`: they lie within 128 of each other, or one of them is among the
first 32. `attn r q k v` is the entry of row `r` for one column of the values: `q` the row's query, `k` the keys of its
head, `v` the column.
-/
module

public import Idealize.ShloMosaic.Lib.Pointwise
public import Idealize.ShloMosaic.Lib.Routing.OpsOrder

@[expose] public section

noncomputable section

namespace Cert.Attn

open Idealize.ShloMosaic

/-- Whether row `r` looks at row `c`. -/
def keep (r c : Fin 1024) : BitVec 1 :=
  IntOp.ori (IntOp.cmpi .sle (IntOp.absi (IntOp.subi (BitVec.ofNat 32 r.val) (BitVec.ofNat 32 c.val))) 128#32)
    (IntOp.ori (IntOp.cmpi .slt (BitVec.ofNat 32 c.val) 32#32) (IntOp.cmpi .slt (BitVec.ofNat 32 r.val) 32#32))

/-- The score of row `c` for row `r`, -/
def score (r : Fin 1024) (q : Fin 128 → EReal) (k : Fin 1024 → Fin 128 → EReal) (c : Fin 1024) : EReal :=
  Scalar.select (keep r c) ((∑ d, q d * k c d) * Ideal.ofBits .f32 0x3DB504F3#32) (Ideal.ofBits .f32 0xCE6E6B28#32)
/-- the exponential of its distance from the row's greatest, -/
def expo (r : Fin 1024) (q : Fin 128 → EReal) (k : Fin 1024 → Fin 128 → EReal) (c : Fin 1024) : EReal :=
  Ideal.exp (score r q k c - Finset.fold max (Ideal.ofBits .f32 0xFF800000#32) (score r q k) Finset.univ)
/-- and the entry. -/
def attn (r : Fin 1024) (q : Fin 128 → EReal) (k : Fin 1024 → Fin 128 → EReal) (v : Fin 1024 → EReal) : EReal :=
  ∑ c, Ideal.div (expo r q k c) (∑ c, expo r q k c) * v c

theorem ori_one (a : BitVec 1) : IntOp.ori a 1#1 = 1#1 := by revert a; decide
theorem one_ori (a : BitVec 1) : IntOp.ori 1#1 a = 1#1 := by revert a; decide
theorem ori_assoc (a b c : BitVec 1) : IntOp.ori (IntOp.ori a b) c = IntOp.ori a (IntOp.ori b c) := by revert a b c; decide
theorem select_one {α : Type} (a b : α) : Scalar.select 1#1 a b = a := rfl

/-- Every row looks at row 0, -/
theorem keep_zero (r : Fin 1024) : keep r 0 = 1#1 := by
  unfold keep
  rw [show IntOp.cmpi .slt (BitVec.ofNat 32 (0 : Fin 1024).val) 32#32 = 1#1 from by decide, one_ori, ori_one]

/-- so the disjunction over the rows it looks at is true. -/
theorem keep_some (r : Fin 1024) : Finset.fold IntOp.ori (0#1) (fun c => keep r c) Finset.univ = 1#1 :=
  (Routing.fold_ori _ _).2 ⟨0, Finset.mem_univ _, keep_zero r⟩

end Cert.Attn

end
-- ==== Proof.KerValue.lean ====
/-
# KerValue: an entry of the kernel's result

A device's share of an entry is a sum over its 1024 columns of heads side by side, of the head's attention entry times
the entry of the device's rows of `Wo`; the two partial projections take 512 columns each.
-/
module

public import proofs.«01_k».proof.Proof.SumValue
public import proofs.«01_k».proof.Proof.Attn

@[expose] public section

set_option maxRecDepth 16384

noncomputable section

namespace Cert.KernelIdeal.Run

open Cert.KernelIdeal Cert.KernelIdeal.Gen Cert.Attn
open Idealize.ShloMosaic Idealize.ShloMosaic.TcCoe

/-- The printed mask is the one of the attention entry, in another order. -/
theorem mask_at (r c : Fin 1024) : k0_pay6 (ix2 r c) = keep r c := by
  pointwise [k0_pay6]
  exact ori_assoc _ _ _

/-- An entry of the queries. -/
theorem queries_at (x : Vec Ideal S1x1024x1024 .bf16) (wq : Vec Ideal S1024x1024 .bf16) (r c : Fin 1024) :
    queries x wq (ix2 r c) = (∑ i : Fin 1024, x (ix3 0 r i) * wq (ix2 i c) : EReal) := by
  pointwise [queries, k0_pay3, k0_pay4, k0_pay5]

/-- An entry of a head, from its queries, keys and values. -/
theorem pay9_at (q : FVec Ideal S1024x128 .bf16) (k v : Vec Ideal S1x1024x1x128 .bf16) (r : Fin 1024) (d : Fin 128) :
    k0_pay9 k0_pay6 q k v (ix2 r d)
      = attn r (fun d => q (ix2 r d)) (fun c d => k (ix4 0 c 0 d)) (fun c => v (ix4 0 c 0 d)) := by
  have hm := mask_at r
  generalize k0_pay6 = M at hm ⊢
  pointwise [k0_pay9]
  simp only [hm]
  rfl

/-- An entry of head `h` of a device. -/
theorem head_at (I : In Ideal) (h : Fin 8) (r : Fin 1024) (d : Fin 128) :
    I.head h (ix2 r d) = attn r (fun d => ∑ i : Fin 1024, I.x (ix3 0 r i) * I.wq (ix2 i ⟨128 * h.val + d.val, by omega⟩))
      (fun c d => I.k (ix4 0 c h d)) (fun c => I.v (ix4 0 c h d)) := by
  have hq : ∀ d : Fin 128, extractStridedSlice S1024x128 ![0, 128 * h.val] (queries I.x I.wq) (slicesHead h) (ix2 r d)
      = (∑ i : Fin 1024, I.x (ix3 0 r i) * I.wq (ix2 i ⟨128 * h.val + d.val, by omega⟩) : EReal) := by
    intro d
    rw [← queries_at]
    pointwise
  have hs : ∀ (K : Vec Ideal S1x1024x8x128 .bf16) (c : Fin 1024) (d : Fin 128), sub (RH h) K (ix4 0 c 0 d) = K (ix4 0 c h d) := by
    intro K c d
    refine congrArg K (funext fun a => Fin.ext ?_)
    match a with
    | ⟨0, _⟩ => rfl
    | ⟨1, _⟩ => show 0 + 1 * c.val = c.val; omega
    | ⟨2, _⟩ => show h.val + 1 * 0 = h.val; omega
    | ⟨3, _⟩ => show 0 + 1 * d.val = d.val; omega
  unfold In.head head
  rw [pay9_at]
  simp only [hq]
  exact congrArg₂ (attn r _) (funext fun c => funext fun d => hs I.k c d) (funext fun c => hs I.v c d)

/-- The entry of the heads side by side, over the inputs of a device. -/
def column (I : In Ideal) (r j : Fin 1024) : EReal :=
  attn r (fun d => ∑ i : Fin 1024, I.x (ix3 0 r i) * I.wq (ix2 i ⟨128 * (j.val / 128) + d.val, by omega⟩))
    (fun c d => I.k (ix4 0 c ⟨j.val / 128, by omega⟩ d)) (fun c => I.v (ix4 0 c ⟨j.val / 128, by omega⟩ ⟨j.val % 128, by omega⟩))

theorem ctx_at (I : In Ideal) (b : Fin 2) (r : Fin 1024) (j : Fin 512) :
    I.ctx b (ix2 r j) = column I r ⟨512 * b.val + j.val, by omega⟩ := by
  have he : (RB b).emb (ix2 r j) = (ix2 r ⟨512 * b.val + j.val, by omega⟩ : S1024x1024.Idx) := funext fun a => Fin.ext (by
    match a with
    | ⟨0, _⟩ => show 0 + 1 * r.val = r.val; omega
    | ⟨1, _⟩ => show 512 * b.val + 1 * j.val = 512 * b.val + j.val; omega)
  show I.heads ((RB b).emb (ix2 r j)) = _
  rw [he]
  have hw : inHead (ix2 r ⟨512 * b.val + j.val, by omega⟩ : S1024x1024.Idx)
      = (ix2 r ⟨(512 * b.val + j.val) % 128, by omega⟩ : S1024x128.Idx) := funext fun a => Fin.ext (by
    match a with
    | ⟨0, _⟩ => rfl
    | ⟨1, _⟩ => rfl)
  unfold In.heads
  rw [hw]
  exact head_at I _ r _

/-- A device's share of an entry. -/
theorem parts_at (I : Dev nD → In Ideal) (c : Dev nD) (r n : Fin 1024) :
    (partA I c (ix2 r n) + partB I c (ix2 r n) : EReal) = ∑ j : Fin 1024, column (I c) r j * (I c).wo (ix2 j n) := by
  have ha : partA I c (ix2 r n) = (∑ j : Fin 512, (I c).ctx 0 (ix2 r j) * (I c).wo (ix2 ⟨j.val, by omega⟩ n) : EReal) := by
    unfold partA
    pointwise [k0_pay16, k0_pay15]
  have hb : partB I c (ix2 r n) = (∑ j : Fin 512, (I c).ctx 1 (ix2 r j) * (I c).wo (ix2 ⟨512 + j.val, by omega⟩ n) : EReal) := by
    unfold partB
    pointwise [k0_pay40, k0_pay15]
  rw [ha, hb, Fin.sum_univ_two_halves 512 512 rfl]
  refine congrArg₂ (· + ·) (Finset.sum_congr rfl fun j _ => ?_) (Finset.sum_congr rfl fun j _ => ?_)
  · rw [ctx_at]
    exact congrArg₂ (fun (a b : Fin 1024) => column (I c) r a * ((I c).wo (ix2 b n) : EReal)) (Fin.ext (by simp)) (Fin.ext (by simp))
  · rw [ctx_at]
    exact congrArg₂ (fun (a b : Fin 1024) => column (I c) r a * ((I c).wo (ix2 b n) : EReal)) (Fin.ext (by simp)) (Fin.ext (by simp))

/-- An entry of the result. -/
theorem result_at (I : Dev nD → In Ideal) (c : Dev nD) (r n : Fin 1024) :
    result I c (ix3 0 r n) = (∑ c' : Dev nD, ∑ j : Fin 1024, column (I c') r j * (I c').wo (ix2 j n) : EReal) := by
  have he : (fun a => (ix3 0 r n : S1x1024x1024.Idx) a.succ : S1024x1024.Idx) = ix2 r n := funext fun a => Fin.ext (by
    match a with
    | ⟨0, _⟩ => rfl
    | ⟨1, _⟩ => rfl)
  rw [result_reduced, he, reduced_sum]
  exact Finset.sum_congr rfl fun c' _ => parts_at I c' r n

end Cert.KernelIdeal.Run

end
-- ==== Proof.RefValue.lean ====
/-
# RefValue: an entry of the reference's result

A sum over the 8192 columns of the heads side by side, of the head's attention entry times the entry of `Wo`.
-/
module

public import proofs.«01_k».proof.Proof.Gen.ReferenceIdeal.Run
public import proofs.«01_k».proof.Proof.Attn
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.Attn
open Idealize.ShloMosaic Idealize.ShloMosaic.TcCoe

/-- The reference at row `r` and column `n`, from its five arguments. -/
def entry (x : Vec Ideal S1x1024x1024 .bf16) (wq : Vec Ideal S1024x8192 .bf16) (k v : Vec Ideal S1x1024x64x128 .bf16)
    (wo : Vec Ideal S8192x1024 .bf16) (r n : Fin 1024) : EReal :=
  ∑ j : Fin 8192, attn r (fun d => ∑ i : Fin 1024, x (ix3 0 r i) * wq (ix2 i ⟨j.val / 128 * 128 + d.val, by omega⟩))
    (fun c d => k (ix4 0 c ⟨j.val / 128, by omega⟩ d))
    (fun c => v (ix4 0 c ⟨j.val / 128, by omega⟩ ⟨j.val % 128, by omega⟩)) * wo (ix2 j n)

theorem out_entry (m : (ℓ : Loc nD τ sig) → Buf (Elt Ideal) ℓ) (c : Dev nD) (r n : Fin 1024) :
    res_main_v47 m c (ix3 0 r n) = entry (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) r n := by
  have hk := keep_some r
  unfold keep at hk
  unfold res_main_v47
  clean_types
  pointwise
  simp only [hk, select_one]
  unfold entry attn
  refine Finset.sum_congr rfl fun j _ => congrArg (· * (_ : EReal)) (Finset.sum_congr rfl fun y _ => ?_)
  exact mul_comm (G := EReal) _ _

end Cert.ReferenceIdeal.Value

end
-- ==== Proof.Algebraic.lean ====
/-
# Algebraic: every device ends with the reference's result

The reference's sum over 8192 columns is the sum over the devices of their 1024 columns: column 1024c + j of the
reference is column j of device `c`, because that device holds these columns of `Wq`, the heads they belong to, and
these rows of `Wo`.
-/
module

public import proofs.«01_k».proof.Defs
public import proofs.«01_k».proof.Proof.Launch
public import proofs.«01_k».proof.Proof.KerValue
public import proofs.«01_k».proof.Proof.RefValue
public import proofs.«01_k».proof.Proof.Gen.ReferenceIdeal.Run
public import Idealize.ShloMosaic.Lib.Layout
public import Idealize.ShloMosaic.Lib.Pipeline.ValueKit

@[expose] public section

noncomputable section

namespace Cert.KernelIdeal.Run

open Cert.KernelIdeal Cert.KernelIdeal.Gen Cert.Attn
open Idealize.ShloMosaic Idealize.ShloMosaic.TcCoe Idealize.SL.Sem

variable (m : (b : Loc nD τ sig) → Buf (Elt Ideal) b) (ρ : Dev nD → PrngReg)

/-- The result array of device `c` ends holding `result`. -/
theorem finalA_out (c : Dev nD) : finalA m ρ c 5 = result (inp m) c :=
  (dats m ρ 0 c).arrAt_eq_of_after_last 5 t0_0 (by decide +kernel) (result (inp m) c) (fun j => rfl)

/-- The block of a window that is its array is the array: device `c` computes on its arguments. -/
theorem inp_eq (c : Dev nD) : inp m c = ⟨m ((c.tc : Thread nD τ).loc main_arg0), m ((c.tc : Thread nD τ).loc main_arg1),
    m ((c.tc : Thread nD τ).loc main_arg2), m ((c.tc : Thread nD τ).loc main_arg3), m ((c.tc : Thread nD τ).loc main_arg4)⟩ := by
  have hx : (inp m c).x = m ((c.tc : Thread nD τ).loc main_arg0) := funext fun y => congrArg (m ((c.tc : Thread nD τ).loc main_arg0))
    (funext fun a => Fin.ext (win0_0.rect_emb_val_of_index_zero t0_0 a rfl y))
  have hq : (inp m c).wq = m ((c.tc : Thread nD τ).loc main_arg1) := funext fun y => congrArg (m ((c.tc : Thread nD τ).loc main_arg1))
    (funext fun a => Fin.ext (win0_1.rect_emb_val_of_index_zero t0_0 a rfl y))
  have hk : (inp m c).k = m ((c.tc : Thread nD τ).loc main_arg2) := funext fun y => congrArg (m ((c.tc : Thread nD τ).loc main_arg2))
    (funext fun a => Fin.ext (win0_2.rect_emb_val_of_index_zero t0_0 a rfl y))
  have hv : (inp m c).v = m ((c.tc : Thread nD τ).loc main_arg3) := funext fun y => congrArg (m ((c.tc : Thread nD τ).loc main_arg3))
    (funext fun a => Fin.ext (win0_3.rect_emb_val_of_index_zero t0_0 a rfl y))
  have ho : (inp m c).wo = m ((c.tc : Thread nD τ).loc main_arg4) := funext fun y => congrArg (m ((c.tc : Thread nD τ).loc main_arg4))
    (funext fun a => Fin.ext (win0_4.rect_emb_val_of_index_zero t0_0 a rfl y))
  rw [← hx, ← hq, ← hk, ← hv, ← ho]

/-- What device `c` holds of an array cut along its columns, -/
abbrev colsOf (c : Fin 8) (w : Vec Ideal ⟨2, ![1024, 8192]⟩ .bf16) : Vec Ideal S1024x1024 .bf16 :=
  Layout.block ⟨2, ![1024, 1024]⟩ ⟨2, ![1024, 8192]⟩ 1 8 c w
/-- its heads -/
abbrev headsOf (c : Fin 8) (w : Vec Ideal ⟨4, ![1, 1024, 64, 128]⟩ .bf16) : Vec Ideal S1x1024x8x128 .bf16 :=
  Layout.block ⟨4, ![1, 1024, 8, 128]⟩ ⟨4, ![1, 1024, 64, 128]⟩ 2 8 c w
/-- and its rows. -/
abbrev rowsOf (c : Fin 8) (w : Vec Ideal ⟨2, ![8192, 1024]⟩ .bf16) : Vec Ideal S1024x1024 .bf16 :=
  Layout.block ⟨2, ![1024, 1024]⟩ ⟨2, ![8192, 1024]⟩ 0 8 c w

/-- A sum over 8192 columns, device by device. -/
theorem sum_blocks (f : Fin 8192 → EReal) :
    ∑ J, f J = ∑ c : Fin 8, ∑ j : Fin 1024, f ⟨c.val * 1024 + j.val, by omega⟩ := by
  rw [← Fintype.sum_prod_type', ← (finProdFinEquiv (m := 8) (n := 1024)).sum_comp]
  refine Finset.sum_congr rfl fun p _ => congrArg f (Fin.ext ?_)
  show p.2.val + 1024 * p.1.val = p.1.val * 1024 + p.2.val
  omega

/-- A device's share of an entry of the reference: the columns 1024c to 1024c+1023 of the heads side by side. -/
theorem share_at (x : Vec Ideal S1x1024x1024 .bf16) (wq : Vec Ideal ⟨2, ![1024, 8192]⟩ .bf16)
    (k v : Vec Ideal ⟨4, ![1, 1024, 64, 128]⟩ .bf16) (wo : Vec Ideal ⟨2, ![8192, 1024]⟩ .bf16) (c : Fin 8) (r n j : Fin 1024) :
    (column ⟨x, colsOf c wq, headsOf c k, headsOf c v, rowsOf c wo⟩ r j
      * rowsOf c wo (ix2 j n) : EReal)
    = (fun J : Fin 8192 => attn r (fun d => ∑ i : Fin 1024, x (ix3 0 r i) * wq (ix2 i ⟨J.val / 128 * 128 + d.val, by omega⟩))
        (fun c d => k (ix4 0 c ⟨J.val / 128, by omega⟩ d))
        (fun c => v (ix4 0 c ⟨J.val / 128, by omega⟩ ⟨J.val % 128, by omega⟩)) * wo (ix2 J n)) ⟨c.val * 1024 + j.val, by omega⟩ := by
  have hj := j.isLt
  have hq : ∀ (i : Fin 1024) (d : Fin 128), colsOf c wq
      (ix2 i ⟨128 * (j.val / 128) + d.val, by omega⟩) = wq (ix2 i ⟨(c.val * 1024 + j.val) / 128 * 128 + d.val, by omega⟩) := fun i d =>
    congrArg wq (funext fun a => Fin.ext (by
      match a with
      | ⟨0, _⟩ => rfl
      | ⟨1, _⟩ => show c.val * 1024 + (128 * (j.val / 128) + d.val) = (c.val * 1024 + j.val) / 128 * 128 + d.val; omega))
  have hk : ∀ (K : Vec Ideal ⟨4, ![1, 1024, 64, 128]⟩ .bf16) (y : Fin 1024) (d e : Fin 128) (he : d.val = e.val),
      headsOf c K (ix4 0 y ⟨j.val / 128, by omega⟩ d)
        = K (ix4 0 y ⟨(c.val * 1024 + j.val) / 128, by omega⟩ e) := fun K y d e he =>
    congrArg K (funext fun a => Fin.ext (by
      match a with
      | ⟨0, _⟩ => rfl
      | ⟨1, _⟩ => rfl
      | ⟨2, _⟩ => show c.val * 8 + j.val / 128 = (c.val * 1024 + j.val) / 128; omega
      | ⟨3, _⟩ => exact he))
  refine congrArg₂ (fun a b : EReal => a * b) ?_ (congrArg wo (funext fun a => Fin.ext (by
    match a with
    | ⟨0, _⟩ => rfl
    | ⟨1, _⟩ => rfl)))
  unfold column
  refine congr (congr (congrArg (attn r) (funext fun d => Finset.sum_congr rfl fun i _ => congrArg _ (hq i d)))
    (funext fun y => funext fun d => hk k y d d rfl)) (funext fun y => hk v y _ _ ?_)
  show j.val % 128 = (c.val * 1024 + j.val) % 128
  omega

end Cert.KernelIdeal.Run

namespace Cert.Proof

open Idealize.ShloMosaic Idealize.ShloMosaic.TcCoe Idealize.SL.Sem Cert.KernelIdeal.Run

theorem algebraic : Cert.algebraic_KernelIdeal_ReferenceIdeal := fun m g m' g' _ hm => by
  refine ⟨Cert.ReferenceIdeal.Value.res_main_v47 m' 0, ?_, ?_⟩
  · refine (θ_run Cert.KernelIdeal.defs _ _).mono (fun r h c => ⟨?_, args_kept m g h.1 c⟩) (run_main (F := Ideal) m g)
    refine ((h.1 c 5).trans (finalA_out m g c)).trans ?_
    funext i
    obtain ⟨a, r, n, rfl⟩ : ∃ (a : Fin 1) (r n : Fin 1024), i = ix3 a r n := ⟨i 0, i 1, i 2, eq_ix3 i⟩
    obtain rfl : a = 0 := Subsingleton.elim _ _
    refine (result_at (inp m) c r n).trans (Eq.trans ?_ (Cert.ReferenceIdeal.Value.out_entry m' 0 r n).symm)
    unfold Cert.ReferenceIdeal.Value.entry
    refine Eq.trans (Finset.sum_congr rfl fun c' _ => Finset.sum_congr rfl fun j _ => ?_) (sum_blocks _).symm
    obtain ⟨h0, h1, h2, h3, h4⟩ := hm c'
    rw [inp_eq, h0, h1, h2, h3, h4]
    exact share_at _ _ _ _ _ c' r n j
  · exact (θ_run Cert.ReferenceIdeal.defs _ _).mono (fun r h => h 0) (Cert.ReferenceIdeal.Value.run (F := Ideal) m' g')

end Cert.Proof

end
-- ==== Proof.lean ====
/- The proof of the claims of this certificate: the frames of the three programs, that the idealized kernel is
   the kernel, and that over the reals it computes the reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
